-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "qscale" .f32 0x3E8293EE#32 (((Real.log 2)⁻¹ * (Real.sqrt 32)⁻¹ : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S4096x128 : Shape := ⟨2, ![4096, 128]⟩
abbrev S4096x4096 : Shape := ⟨2, ![4096, 4096]⟩
abbrev S4096x32 : Shape := ⟨2, ![4096, 32]⟩
abbrev S128x64 : Shape := ⟨2, ![128, 64]⟩
abbrev S128 : Shape := ⟨1, ![128]⟩
abbrev S32x32 : Shape := ⟨2, ![32, 32]⟩
abbrev S256x128 : Shape := ⟨2, ![256, 128]⟩
abbrev S256 : Shape := ⟨1, ![256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S32x32 : S_.BroadcastsInDim S32x32 (![] : Fin 0 → Fin S32x32.rank)
  reducesTo_S32x32_S_d0_1 : S32x32.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256 .f32) (main_v65 : IVec S_ 1) (main_v66 : FVec F S256x128 .f32) (main_v67 : FVec F S256x128 .f32) : IVec S_ 1 :=
  let main_v68 : IVec S256x128 1 := cmpf .olt main_v66 main_v67
  let main_c_26 : IVec S_ 1 := constantI S_ 1 1#1
  let main_v69 : IVec S_ 1 := (fun x v => Host.reduce IntOp.andi x v reducesTo_S256x128_S_d0_1 h_S_) main_v68 main_c_26
  let main_v70 : IVec S_ 1 := andi main_v65 main_v69
  let main_v71 : FVec F S256 .f32 := Host.absf main_arg14
  let main_cst_27 : FVec F S_ .f32 := constant S_ .f32 0x7F800000#32
  let main_v72 : FVec F S256 .f32 := broadcastInDim S256 ![] bcast_S_S256 main_cst_27
  let main_v73 : IVec S256 1 := cmpf .olt main_v71 main_v72
  let main_c_28 : IVec S_ 1 := constantI S_ 1 1#1
  let main_v74 : IVec S_ 1 := (fun x v => Host.reduce IntOp.andi x v reducesTo_S256_S_d0 h_S_) main_v73 main_c_28
  let main_v75 : IVec S_ 1 := andi main_v70 main_v74
  main_v75

def fn_part3 {F : FTy → Type} [FloatOps F] (main_arg10 : FVec F S128 .f32) (main_arg11 : FVec F S32x32 .f32) (main_arg12 : FVec F S32x32 .f32) (main_arg13 : FVec F S256x128 .f32) (main_arg14 : FVec F S256 .f32) (main_v50 : IVec S_ 1) : IVec S_ 1 :=
  let main_v51 : FVec F S128 .f32 := Host.absf main_arg10
  let main_cst_19 : FVec F S_ .f32 := constant S_ .f32 0x7F800000#32
  let main_v52 : FVec F S128 .f32 := broadcastInDim S128 ![] bcast_S_S128 main_cst_19
  let main_v53 : IVec S128 1 := cmpf .olt main_v51 main_v52
  let main_c_20 : IVec S_ 1 := constantI S_ 1 1#1
  let main_v54 : IVec S_ 1 := (fun x v => Host.reduce IntOp.andi x v reducesTo_S128_S_d0 h_S_) main_v53 main_c_20
  let main_v55 : IVec S_ 1 := andi main_v50 main_v54
  let main_v56 : FVec F S32x32 .f32 := Host.absf main_arg11
  let main_cst_21 : FVec F S_ .f32 := constant S_ .f32 0x7F800000#32
  let main_v57 : FVec F S32x32 .f32 := broadcastInDim S32x32 ![] bcast_S_S32x32 main_cst_21
  let main_v58 : IVec S32x32 1 := cmpf .olt main_v56 main_v57
  let main_c_22 : IVec S_ 1 := constantI S_ 1 1#1
  let main_v59 : IVec S_ 1 := (fun x v => Host.reduce IntOp.andi x v reducesTo_S32x32_S_d0_1 h_S_) main_v58 main_c_22
  let main_v60 : IVec S_ 1 := andi main_v55 main_v59
  let main_v61 : FVec F S32x32 .f32 := Host.absf main_arg12
  let main_cst_23 : FVec F S_ .f32 := constant S_ .f32 0x7F800000#32
  let main_v62 : FVec F S32x32 .f32 := broadcastInDim S32x32 ![] bcast_S_S32x32 main_cst_23
  let main_v63 : IVec S32x32 1 := cmpf .olt main_v61 main_v62
  let main_c_24 : IVec S_ 1 := constantI S_ 1 1#1
  let main_v64 : IVec S_ 1 := (fun x v => Host.reduce IntOp.andi x v reducesTo_S32x32_S_d0_1 h_S_) main_v63 main_c_24
  let main_v65 : IVec S_ 1 := andi main_v60 main_v64
  let main_v66 : FVec F S256x128 .f32 := Host.absf main_arg13
  let main_cst_25 : FVec F S_ .f32 := constant S_ .f32 0x7F800000#32
  let main_v67 : FVec F S256x128 .f32 := broadcastInDim S256x128 ![] bcast_S_S256x128 main_cst_25
  fn_part4 (F := F) main_arg14 main_v65 main_v66 main_v67

def fn_part2 {F : FTy → Type} [FloatOps F] (main_arg7 : FVec F S128x64 .f32) (main_arg8 : FVec F S128 .f32) (main_arg9 : FVec F S128x64 .f32) (main_arg10 : FVec F S128 .f32) (main_arg11 : FVec F S32x32 .f32) (main_arg12 : FVec F S32x32 .f32) (main_arg13 : FVec F S256x128 .f32) (main_arg14 : FVec F S256 .f32) (main_v30 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v30 main_v34
  let main_v36 : FVec F S128x64 .f32 := Host.absf main_arg7
  let main_cst_13 : FVec F S_ .f32 := constant S_ .f32 0x7F800000#32
  let main_v37 : FVec F S128x64 .f32 := broadcastInDim S128x64 ![] bcast_S_S128x64 main_cst_13
  let main_v38 : IVec S128x64 1 := cmpf .olt main_v36 main_v37
  let main_c_14 : IVec S_ 1 := constantI S_ 1 1#1
  let main_v39 : IVec S_ 1 := (fun x v => Host.reduce IntOp.andi x v reducesTo_S128x64_S_d0_1 h_S_) main_v38 main_c_14
  let main_v40 : IVec S_ 1 := andi main_v35 main_v39
  let main_v41 : FVec F S128 .f32 := Host.absf main_arg8
  let main_cst_15 : FVec F S_ .f32 := constant S_ .f32 0x7F800000#32
  let main_v42 : FVec F S128 .f32 := broadcastInDim S128 ![] bcast_S_S128 main_cst_15
  let main_v43 : IVec S128 1 := cmpf .olt main_v41 main_v42
  let main_c_16 : IVec S_ 1 := constantI S_ 1 1#1
  let main_v44 : IVec S_ 1 := (fun x v => Host.reduce IntOp.andi x v reducesTo_S128_S_d0 h_S_) main_v43 main_c_16
  let main_v45 : IVec S_ 1 := andi main_v40 main_v44
  let main_v46 : FVec F S128x64 .f32 := Host.absf main_arg9
  let main_cst_17 : FVec F S_ .f32 := constant S_ .f32 0x7F800000#32
  let main_v47 : FVec F S128x64 .f32 := broadcastInDim S128x64 ![] bcast_S_S128x64 main_cst_17
  let main_v48 : IVec S128x64 1 := cmpf .olt main_v46 main_v47
  let main_c_18 : IVec S_ 1 := constantI S_ 1 1#1
  let main_v49 : IVec S_ 1 := (fun x v => Host.reduce IntOp.andi x v reducesTo_S128x64_S_d0_1 h_S_) main_v48 main_c_18
  let main_v50 : IVec S_ 1 := andi main_v45 main_v49
  fn_part3 (F := F) main_arg10 main_arg11 main_arg12 main_arg13 main_arg14 main_v50

def fn_part1 {F : FTy → Type} [FloatOps F] (main_arg4 : FVec F S128 .f32) (main_arg5 : FVec F S128x64 .f32) (main_arg6 : FVec F S128 .f32) (main_arg7 : FVec F S128x64 .f32) (main_arg8 : FVec F S128 .f32) (main_arg9 : FVec F S128x64 .f32) (main_arg10 : FVec F S128 .f32) (main_arg11 : FVec F S32x32 .f32) (main_arg12 : FVec F S32x32 .f32) (main_arg13 : FVec F S256x128 .f32) (main_arg14 : FVec F S256 .f32) (main_v15 : IVec S_ 1) (main_v16 : FVec F S128x64 .f32) : IVec S_ 1 :=
  let main_cst_5 : FVec F S_ .f32 := constant S_ .f32 0x7F800000#32
  let main_v17 : FVec F S128x64 .f32 := broadcastInDim S128x64 ![] bcast_S_S128x64 main_cst_5
  let main_v18 : IVec S128x64 1 := cmpf .olt main_v16 main_v17
  let main_c_6 : IVec S_ 1 := constantI S_ 1 1#1
  let main_v19 : IVec S_ 1 := (fun x v => Host.reduce IntOp.andi x v reducesTo_S128x64_S_d0_1 h_S_) main_v18 main_c_6
  let main_v20 : IVec S_ 1 := andi main_v15 main_v19
  let main_v21 : FVec F S128 .f32 := Host.absf main_arg4
  let main_cst_7 : FVec F S_ .f32 := constant S_ .f32 0x7F800000#32
  let main_v22 : FVec F S128 .f32 := broadcastInDim S128 ![] bcast_S_S128 main_cst_7
  let main_v23 : IVec S128 1 := cmpf .olt main_v21 main_v22
  let main_c_8 : IVec S_ 1 := constantI S_ 1 1#1
  let main_v24 : IVec S_ 1 := (fun x v => Host.reduce IntOp.andi x v reducesTo_S128_S_d0 h_S_) main_v23 main_c_8
  let main_v25 : IVec S_ 1 := andi main_v20 main_v24
  let main_v26 : FVec F S128x64 .f32 := Host.absf main_arg5
  let main_cst_9 : FVec F S_ .f32 := constant S_ .f32 0x7F800000#32
  let main_v27 : FVec F S128x64 .f32 := broadcastInDim S128x64 ![] bcast_S_S128x64 main_cst_9
  let main_v28 : IVec S128x64 1 := cmpf .olt main_v26 main_v27
  let main_c_10 : IVec S_ 1 := constantI S_ 1 1#1
  let main_v29 : IVec S_ 1 := (fun x v => Host.reduce IntOp.andi x v reducesTo_S128x64_S_d0_1 h_S_) main_v28 main_c_10
  let main_v30 : IVec S_ 1 := andi main_v25 main_v29
  let main_v31 : FVec F S128 .f32 := Host.absf main_arg6
  let main_cst_11 : FVec F S_ .f32 := constant S_ .f32 0x7F800000#32
  let main_v32 : FVec F S128 .f32 := broadcastInDim S128 ![] bcast_S_S128 main_cst_11
  let main_v33 : IVec S128 1 := cmpf .olt main_v31 main_v32
  fn_part2 (F := F) main_arg7 main_arg8 main_arg9 main_arg10 main_arg11 main_arg12 main_arg13 main_arg14 main_v30 main_v33

def fn {F : FTy → Type} [FloatOps F] (main_arg0 : FVec F S4096x128 .f32) (main_arg1 : FVec F S4096x4096 .f32) (main_arg2 : FVec F S4096x32 .f32) (main_arg3 : FVec F S128x64 .f32) (main_arg4 : FVec F S128 .f32) (main_arg5 : FVec F S128x64 .f32) (main_arg6 : FVec F S128 .f32) (main_arg7 : FVec F S128x64 .f32) (main_arg8 : FVec F S128 .f32) (main_arg9 : FVec F S128x64 .f32) (main_arg10 : FVec F S128 .f32) (main_arg11 : FVec F S32x32 .f32) (main_arg12 : FVec F S32x32 .f32) (main_arg13 : FVec F S256x128 .f32) (main_arg14 : FVec F S256 .f32) : IVec S_ 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oeq main_arg1 main_v0
  let main_cst_0 : FVec F S_ .f32 := constant S_ .f32 0x3F800000#32
  let main_v2 : FVec F S4096x4096 .f32 := broadcastInDim S4096x4096 ![] bcast_S_S4096x4096 main_cst_0
  let main_v3 : IVec S4096x4096 1 := cmpf .oeq main_arg1 main_v2
  let main_v4 : IVec S4096x4096 1 := ori main_v1 main_v3
  let main_c : IVec S_ 1 := constantI S_ 1 1#1
  let main_v5 : IVec S_ 1 := (fun x v => Host.reduce IntOp.andi x v reducesTo_S4096x4096_S_d0_1 h_S_) main_v4 main_c
  let main_v6 : FVec F S4096x128 .f32 := Host.absf main_arg0
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_c_2 : IVec S_ 1 := constantI S_ 1 1#1
  let main_v9 : IVec S_ 1 := (fun x v => Host.reduce IntOp.andi x v reducesTo_S4096x128_S_d0_1 h_S_) main_v8 main_c_2
  let main_v10 : IVec S_ 1 := andi main_v5 main_v9
  let main_v11 : FVec F S4096x32 .f32 := Host.absf main_arg2
  let main_cst_3 : FVec F S_ .f32 := constant S_ .f32 0x7F800000#32
  let main_v12 : FVec F S4096x32 .f32 := broadcastInDim S4096x32 ![] bcast_S_S4096x32 main_cst_3
  let main_v13 : IVec S4096x32 1 := cmpf .olt main_v11 main_v12
  let main_c_4 : IVec S_ 1 := constantI S_ 1 1#1
  let main_v14 : IVec S_ 1 := (fun x v => Host.reduce IntOp.andi x v reducesTo_S4096x32_S_d0_1 h_S_) main_v13 main_c_4
  let main_v15 : IVec S_ 1 := andi main_v10 main_v14
  let main_v16 : FVec F S128x64 .f32 := Host.absf main_arg3
  fn_part1 (F := F) main_arg4 main_arg5 main_arg6 main_arg7 main_arg8 main_arg9 main_arg10 main_arg11 main_arg12 main_arg13 main_arg14 main_v15 main_v16
-- ==== Kernel.lean ====
abbrev S4096x128 : Shape := ⟨2, ![4096, 128]⟩
abbrev S4096x4096 : Shape := ⟨2, ![4096, 4096]⟩
abbrev S4096x32 : Shape := ⟨2, ![4096, 32]⟩
abbrev S128x64 : Shape := ⟨2, ![128, 64]⟩
abbrev S128 : Shape := ⟨1, ![128]⟩
abbrev S32x32 : Shape := ⟨2, ![32, 32]⟩
abbrev S256x128 : Shape := ⟨2, ![256, 128]⟩
abbrev S256 : Shape := ⟨1, ![256]⟩
abbrev S128x256 : Shape := ⟨2, ![128, 256]⟩
abbrev S64 : Shape := ⟨1, ![64]⟩
abbrev S1x64 : Shape := ⟨2, ![1, 64]⟩
abbrev S4x64 : Shape := ⟨2, ![4, 64]⟩
abbrev S4x4 : Shape := ⟨2, ![4, 4]⟩
abbrev S_ : Shape := ⟨0, ![]⟩
abbrev S4x64x1 : Shape := ⟨3, ![4, 64, 1]⟩
abbrev S4x1x4 : Shape := ⟨3, ![4, 1, 4]⟩
abbrev S4x64x4 : Shape := ⟨3, ![4, 64, 4]⟩
abbrev S256x4 : Shape := ⟨2, ![256, 4]⟩
abbrev S4x4x1 : Shape := ⟨3, ![4, 4, 1]⟩
abbrev S1x4x64 : Shape := ⟨3, ![1, 4, 64]⟩
abbrev S4x4x64 : Shape := ⟨3, ![4, 4, 64]⟩
abbrev S4x256 : Shape := ⟨2, ![4, 256]⟩
abbrev S128x1 : Shape := ⟨2, ![128, 1]⟩
abbrev S1x128 : Shape := ⟨2, ![1, 128]⟩
abbrev S4096x256 : Shape := ⟨2, ![4096, 256]⟩
abbrev S512x4096 : Shape := ⟨2, ![512, 4096]⟩
abbrev S512x256 : Shape := ⟨2, ![512, 256]⟩
abbrev S4096x512 : Shape := ⟨2, ![4096, 512]⟩
abbrev S4096x4 : Shape := ⟨2, ![4096, 4]⟩
abbrev S4x4096 : Shape := ⟨2, ![4, 4096]⟩
abbrev S32x4096 : Shape := ⟨2, ![32, 4096]⟩
abbrev S1x256 : Shape := ⟨2, ![1, 256]⟩
abbrev S4096x1 : Shape := ⟨2, ![4096, 1]⟩
abbrev S4096x63 : Shape := ⟨2, ![4096, 63]⟩
abbrev S4096x64 : Shape := ⟨2, ![4096, 64]⟩
abbrev S512x4 : Shape := ⟨2, ![512, 4]⟩
abbrev S512x32 : Shape := ⟨2, ![512, 32]⟩
abbrev S512x1 : Shape := ⟨2, ![512, 1]⟩
abbrev S1x4096 : Shape := ⟨2, ![1, 4096]⟩
abbrev S512x128 : Shape := ⟨2, ![512, 128]⟩
abbrev S512x64 : Shape := ⟨2, ![512, 64]⟩
abbrev S1024x4096 : Shape := ⟨2, ![1024, 4096]⟩
abbrev S1024x128 : Shape := ⟨2, ![1024, 128]⟩
abbrev S4096x127 : Shape := ⟨2, ![4096, 127]⟩
abbrev S1024x1 : Shape := ⟨2, ![1024, 1]⟩
abbrev S1024x256 : Shape := ⟨2, ![1024, 256]⟩

abbrev nBuf : Space → Nat
  | .hbm => 61
  | .vmem => 35
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x32, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128, .f32⟩
  | .hbm, ⟨7, _⟩ => ⟨S128x64, .f32⟩
  | .hbm, ⟨8, _⟩ => ⟨S128, .f32⟩
  | .hbm, ⟨9, _⟩ => ⟨S128x64, .f32⟩
  | .hbm, ⟨10, _⟩ => ⟨S128, .f32⟩
  | .hbm, ⟨11, _⟩ => ⟨S32x32, .f32⟩
  | .hbm, ⟨12, _⟩ => ⟨S32x32, .f32⟩
  | .hbm, ⟨13, _⟩ => ⟨S256x128, .f32⟩
  | .hbm, ⟨14, _⟩ => ⟨S256, .f32⟩
  | .hbm, ⟨15, _⟩ => ⟨S128x256, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S4x64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S4x64, .f32⟩
  | .hbm, ⟨34, _⟩ => ⟨S4x4, .i32⟩
  | .hbm, ⟨35, _⟩ => ⟨S4x4, .i32⟩
  | .hbm, ⟨36, _⟩ => ⟨S_, .i32⟩
  | .hbm, ⟨37, _⟩ => ⟨S4x4, .i32⟩
  | .hbm, ⟨38, _⟩ => ⟨S4x4, .i32⟩
  | .hbm, ⟨39, _⟩ => ⟨S4x4, .i1⟩
  | .hbm, ⟨40, _⟩ => ⟨S4x4, .f32⟩
  | .hbm, ⟨41, _⟩ => ⟨S4x64x1, .f32⟩
  | .hbm, ⟨42, _⟩ => ⟨S4x1x4, .f32⟩
  | .hbm, ⟨43, _⟩ => ⟨S4x64x4, .f32⟩
  | .hbm, ⟨44, _⟩ => ⟨S4x64x4, .f32⟩
  | .hbm, ⟨45, _⟩ => ⟨S4x64x4, .f32⟩
  | .hbm, ⟨46, _⟩ => ⟨S256x4, .f32⟩
  | .hbm, ⟨47, _⟩ => ⟨S4x4x1, .f32⟩
  | .hbm, ⟨48, _⟩ => ⟨S1x4x64, .f32⟩
  | .hbm, ⟨49, _⟩ => ⟨S4x4x64, .f32⟩
  | .hbm, ⟨50, _⟩ => ⟨S4x4x64, .f32⟩
  | .hbm, ⟨51, _⟩ => ⟨S4x4x64, .f32⟩
  | .hbm, ⟨52, _⟩ => ⟨S4x256, .f32⟩
  | .hbm, ⟨53, _⟩ => ⟨S32x32, .f32⟩
  | .hbm, ⟨54, _⟩ => ⟨S128, .f32⟩
  | .hbm, ⟨55, _⟩ => ⟨S128x1, .f32⟩
  | .hbm, ⟨56, _⟩ => ⟨S128, .f32⟩
  | .hbm, ⟨57, _⟩ => ⟨S1x128, .f32⟩
  | .hbm, ⟨58, _⟩ => ⟨S4096x256, .f32⟩
  | .hbm, ⟨59, _⟩ => ⟨S4096x4096, .i8⟩
  | .hbm, ⟨60, _⟩ => ⟨S4096x128, .f32⟩
  | .local _ .vmem, ⟨0, _⟩ => ⟨S4096x128, .f32⟩
  | .local _ .vmem, ⟨1, _⟩ => ⟨S512x4096, .f32⟩
  | .local _ .vmem, ⟨2, _⟩ => ⟨S512x4096, .f32⟩
  | .local _ .vmem, ⟨3, _⟩ => ⟨S4096x32, .f32⟩
  | .local _ .vmem, ⟨4, _⟩ => ⟨S128x256, .f32⟩
  | .local _ .vmem, ⟨5, _⟩ => ⟨S256x4, .f32⟩
  | .local _ .vmem, ⟨6, _⟩ => ⟨S4x256, .f32⟩
  | .local _ .vmem, ⟨7, _⟩ => ⟨S32x32, .f32⟩
  | .local _ .vmem, ⟨8, _⟩ => ⟨S32x32, .f32⟩
  | .local _ .vmem, ⟨9, _⟩ => ⟨S512x256, .f32⟩
  | .local _ .vmem, ⟨10, _⟩ => ⟨S512x256, .f32⟩
  | .local _ .vmem, ⟨11, _⟩ => ⟨S512x4096, .i8⟩
  | .local _ .vmem, ⟨12, _⟩ => ⟨S512x4096, .i8⟩
  | .local _ .vmem, ⟨13, _⟩ => ⟨S4096x512, .bf16⟩
  | .local _ .vmem, ⟨14, _⟩ => ⟨S4096x4, .bf16⟩
  | .local _ .vmem, ⟨15, _⟩ => ⟨S4096x4, .bf16⟩
  | .local _ .vmem, ⟨16, _⟩ => ⟨S4x4096, .bf16⟩
  | .local _ .vmem, ⟨17, _⟩ => ⟨S4x4096, .bf16⟩
  | .local _ .vmem, ⟨18, _⟩ => ⟨S4096x32, .bf16⟩
  | .local _ .vmem, ⟨19, _⟩ => ⟨S32x4096, .bf16⟩
  | .local _ .vmem, ⟨20, _⟩ => ⟨S1x256, .f32⟩
  | .local _ .vmem, ⟨21, _⟩ => ⟨S4096x256, .f32⟩
  | .local _ .vmem, ⟨22, _⟩ => ⟨S1024x4096, .i8⟩
  | .local _ .vmem, ⟨23, _⟩ => ⟨S1024x4096, .i8⟩
  | .local _ .vmem, ⟨24, _⟩ => ⟨S256x128, .f32⟩
  | .local _ .vmem, ⟨25, _⟩ => ⟨S128x1, .f32⟩
  | .local _ .vmem, ⟨26, _⟩ => ⟨S1x128, .f32⟩
  | .local _ .vmem, ⟨27, _⟩ => ⟨S1024x128, .f32⟩
  | .local _ .vmem, ⟨28, _⟩ => ⟨S1024x128, .f32⟩
  | .local _ .vmem, ⟨29, _⟩ => ⟨S4096x256, .bf16⟩
  | .local _ .vmem, ⟨30, _⟩ => ⟨S4096x1, .bf16⟩
  | .local _ .vmem, ⟨31, _⟩ => ⟨S4096x1, .bf16⟩
  | .local _ .vmem, ⟨32, _⟩ => ⟨S1x4096, .bf16⟩
  | .local _ .vmem, ⟨33, _⟩ => ⟨S1x4096, .bf16⟩
  | .local _ .vmem, ⟨34, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v43 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc1_stg0_0 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg5_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc1_scratch4 : Ref sig .tc := ⟨.vmem, 33, rfl⟩
abbrev cc1_scratch5 : Ref sig .tc := ⟨.vmem, 34, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_4 : Index := 0#32
  ![v8.toNat, 0]
def k0_off2 (i : grid0.Coords) : Fin 2 → Nat :=
  let arg0 : BitVec 32 := BitVec.ofNat 32 (i 0).val
  let c512_i32 : BitVec 32 := 512#32
  let v7 : BitVec 32 := Scalar.muli arg0 c512_i32
  let v14 : Index := Scalar.indexCast v7
  let c0_10 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def k1_off1 (i : grid1.Coords) : Fin 2 → Nat :=
  let arg0 : BitVec 32 := BitVec.ofNat 32 (i 0).val
  let c1024_i32 : BitVec 32 := 1024#32
  let v6 : BitVec 32 := Scalar.muli arg0 c1024_i32
  let v7 : Index := Scalar.indexCast v6
  let c0_2 : Index := 0#32
  ![v7.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x4096 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "qscale" => some (((Real.log 2)⁻¹ * (Real.sqrt 32)⁻¹ : ℝ) : EReal)
  | _ => none
-- ==== ReferenceIdeal.lean ====
abbrev S4096x128 : Shape := ⟨2, ![4096, 128]⟩
abbrev S4096x4096 : Shape := ⟨2, ![4096, 4096]⟩
abbrev S4096x32 : Shape := ⟨2, ![4096, 32]⟩
abbrev S128x64 : Shape := ⟨2, ![128, 64]⟩
abbrev S128 : Shape := ⟨1, ![128]⟩
abbrev S32x32 : Shape := ⟨2, ![32, 32]⟩
abbrev S256x128 : Shape := ⟨2, ![256, 128]⟩
abbrev S256 : Shape := ⟨1, ![256]⟩
abbrev S4096x64 : Shape := ⟨2, ![4096, 64]⟩
abbrev S64 : Shape := ⟨1, ![64]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S32x4096 : Shape := ⟨2, ![32, 4096]⟩
abbrev S4096x256 : Shape := ⟨2, ![4096, 256]⟩

abbrev nBuf : Space → Nat
  | .hbm => 336
  | .vmem => 0
  | .smem => 0
  | _ => 0

abbrev hbmTy0_0 (i : Nat) : BufTy := match i % 128 with
  | 0 => ⟨S4096x128, .f32⟩
  | 1 => ⟨S4096x4096, .f32⟩
  | 2 => ⟨S4096x32, .f32⟩
  | 3 => ⟨S128x64, .f32⟩
  | 4 => ⟨S128, .f32⟩
  | 5 => ⟨S128x64, .f32⟩
  | 6 => ⟨S128, .f32⟩
  | 7 => ⟨S128x64, .f32⟩
  | 8 => ⟨S128, .f32⟩
  | 9 => ⟨S128x64, .f32⟩
  | 10 => ⟨S128, .f32⟩
  | 11 => ⟨S32x32, .f32⟩
  | 12 => ⟨S32x32, .f32⟩
  | 13 => ⟨S256x128, .f32⟩
  | 14 => ⟨S256, .f32⟩
  | 15 => ⟨S4096x64, .f32⟩
  | 16 => ⟨S64, .f32⟩
  | 17 => ⟨S4096, .f32⟩
  | 18 => ⟨S64, .f32⟩
  | 19 => ⟨S4096, .f32⟩
  | 20 => ⟨S4096x1, .f32⟩
  | 21 => ⟨S1x4096, .f32⟩
  | 22 => ⟨S4096x4096, .f32⟩
  | 23 => ⟨S4096x4096, .f32⟩
  | 24 => ⟨S4096x4096, .f32⟩
  | 25 => ⟨S_, .f32⟩
  | 26 => ⟨S_, .f32⟩
  | 27 => ⟨S4096x4096, .f32⟩
  | 28 => ⟨S4096x4096, .i1⟩
  | 29 => ⟨S_, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .i1⟩
  | 36 => ⟨S_, .f32⟩
  | 37 => ⟨S_, .f32⟩
  | 38 => ⟨S4096x4096, .f32⟩
  | 39 => ⟨S4096x4096, .f32⟩
  | 40 => ⟨S_, .f32⟩
  | 41 => ⟨S4096, .f32⟩
  | 42 => ⟨S_, .f32⟩
  | 43 => ⟨S4096, .f32⟩
  | 44 => ⟨S4096, .f32⟩
  | 45 => ⟨S4096x1, .f32⟩
  | 46 => ⟨S4096x4096, .f32⟩
  | 47 => ⟨S4096x4096, .f32⟩
  | 48 => ⟨S4096x4096, .f32⟩
  | 49 => ⟨S_, .f32⟩
  | 50 => ⟨S4096, .f32⟩
  | 51 => ⟨S4096x1, .f32⟩
  | 52 => ⟨S4096x4096, .f32⟩
  | 53 => ⟨S4096x4096, .f32⟩
  | 54 => ⟨S_, .f32⟩
  | 55 => ⟨S4096x4096, .f32⟩
  | 56 => ⟨S4096x4096, .i1⟩
  | 57 => ⟨S_, .i1⟩
  | 58 => ⟨S4096, .i1⟩
  | 59 => ⟨S4096x1, .i1⟩
  | 60 => ⟨S_, .f32⟩
  | 61 => ⟨S4096x4096, .i1⟩
  | 62 => ⟨S4096x4096, .f32⟩
  | 63 => ⟨S4096x4096, .f32⟩
  | 64 => ⟨S4096x64, .f32⟩
  | 65 => ⟨S_, .f32⟩
  | 66 => ⟨S4096x64, .f32⟩
  | 67 => ⟨S4096x64, .i1⟩
  | 68 => ⟨S_, .f32⟩
  | 69 => ⟨S4096x64, .f32⟩
  | 70 => ⟨S4096x64, .i1⟩
  | 71 => ⟨S_, .f32⟩
  | 72 => ⟨S_, .f32⟩
  | 73 => ⟨S4096x64, .f32⟩
  | 74 => ⟨S4096x64, .f32⟩
  | 75 => ⟨S4096x64, .f32⟩
  | 76 => ⟨S_, .f32⟩
  | 77 => ⟨S4096x64, .f32⟩
  | 78 => ⟨S4096x64, .f32⟩
  | 79 => ⟨S4096x64, .f32⟩
  | 80 => ⟨S4096x64, .f32⟩
  | 81 => ⟨S64, .f32⟩
  | 82 => ⟨S4096, .f32⟩
  | 83 => ⟨S64, .f32⟩
  | 84 => ⟨S4096, .f32⟩
  | 85 => ⟨S4096x1, .f32⟩
  | 86 => ⟨S1x4096, .f32⟩
  | 87 => ⟨S4096x4096, .f32⟩
  | 88 => ⟨S4096x4096, .f32⟩
  | 89 => ⟨S4096x4096, .f32⟩
  | 90 => ⟨S_, .f32⟩
  | 91 => ⟨S_, .f32⟩
  | 92 => ⟨S4096x4096, .f32⟩
  | 93 => ⟨S4096x4096, .i1⟩
  | 94 => ⟨S_, .f32⟩
  | 95 => ⟨S4096x4096, .f32⟩
  | 96 => ⟨S4096x4096, .f32⟩
  | 97 => ⟨S4096x4096, .f32⟩
  | 98 => ⟨S_, .f32⟩
  | 99 => ⟨S4096x4096, .f32⟩
  | 100 => ⟨S4096x4096, .i1⟩
  | 101 => ⟨S_, .f32⟩
  | 102 => ⟨S_, .f32⟩
  | 103 => ⟨S4096x4096, .f32⟩
  | 104 => ⟨S4096x4096, .f32⟩
  | 105 => ⟨S_, .f32⟩
  | 106 => ⟨S4096, .f32⟩
  | 107 => ⟨S_, .f32⟩
  | 108 => ⟨S4096, .f32⟩
  | 109 => ⟨S4096, .f32⟩
  | 110 => ⟨S4096x1, .f32⟩
  | 111 => ⟨S4096x4096, .f32⟩
  | 112 => ⟨S4096x4096, .f32⟩
  | 113 => ⟨S4096x4096, .f32⟩
  | 114 => ⟨S_, .f32⟩
  | 115 => ⟨S4096, .f32⟩
  | 116 => ⟨S4096x1, .f32⟩
  | 117 => ⟨S4096x4096, .f32⟩
  | 118 => ⟨S4096x4096, .f32⟩
  | 119 => ⟨S_, .f32⟩
  | 120 => ⟨S4096x4096, .f32⟩
  | 121 => ⟨S4096x4096, .i1⟩
  | 122 => ⟨S_, .i1⟩
  | 123 => ⟨S4096, .i1⟩
  | 124 => ⟨S4096x1, .i1⟩
  | 125 => ⟨S_, .f32⟩
  | 126 => ⟨S4096x4096, .i1⟩
  | 127 => ⟨S4096x4096, .f32⟩
  | _ => ⟨S4096x128, .f32⟩

abbrev hbmTy0_1 (i : Nat) : BufTy := match i % 128 with
  | 0 => ⟨S4096x4096, .f32⟩
  | 1 => ⟨S4096x64, .f32⟩
  | 2 => ⟨S_, .f32⟩
  | 3 => ⟨S4096x64, .f32⟩
  | 4 => ⟨S4096x64, .i1⟩
  | 5 => ⟨S_, .f32⟩
  | 6 => ⟨S4096x64, .f32⟩
  | 7 => ⟨S4096x64, .i1⟩
  | 8 => ⟨S_, .f32⟩
  | 9 => ⟨S_, .f32⟩
  | 10 => ⟨S4096x64, .f32⟩
  | 11 => ⟨S4096x64, .f32⟩
  | 12 => ⟨S4096x64, .f32⟩
  | 13 => ⟨S_, .f32⟩
  | 14 => ⟨S4096x64, .f32⟩
  | 15 => ⟨S4096x64, .f32⟩
  | 16 => ⟨S4096x64, .f32⟩
  | 17 => ⟨S4096x64, .f32⟩
  | 18 => ⟨S64, .f32⟩
  | 19 => ⟨S4096, .f32⟩
  | 20 => ⟨S64, .f32⟩
  | 21 => ⟨S4096, .f32⟩
  | 22 => ⟨S4096x1, .f32⟩
  | 23 => ⟨S1x4096, .f32⟩
  | 24 => ⟨S4096x4096, .f32⟩
  | 25 => ⟨S4096x4096, .f32⟩
  | 26 => ⟨S4096x4096, .f32⟩
  | 27 => ⟨S_, .f32⟩
  | 28 => ⟨S_, .f32⟩
  | 29 => ⟨S4096x4096, .f32⟩
  | 30 => ⟨S4096x4096, .i1⟩
  | 31 => ⟨S_, .f32⟩
  | 32 => ⟨S4096x4096, .f32⟩
  | 33 => ⟨S4096x4096, .f32⟩
  | 34 => ⟨S4096x4096, .f32⟩
  | 35 => ⟨S_, .f32⟩
  | 36 => ⟨S4096x4096, .f32⟩
  | 37 => ⟨S4096x4096, .i1⟩
  | 38 => ⟨S_, .f32⟩
  | 39 => ⟨S_, .f32⟩
  | 40 => ⟨S4096x4096, .f32⟩
  | 41 => ⟨S4096x4096, .f32⟩
  | 42 => ⟨S_, .f32⟩
  | 43 => ⟨S4096, .f32⟩
  | 44 => ⟨S_, .f32⟩
  | 45 => ⟨S4096, .f32⟩
  | 46 => ⟨S4096, .f32⟩
  | 47 => ⟨S4096x1, .f32⟩
  | 48 => ⟨S4096x4096, .f32⟩
  | 49 => ⟨S4096x4096, .f32⟩
  | 50 => ⟨S4096x4096, .f32⟩
  | 51 => ⟨S_, .f32⟩
  | 52 => ⟨S4096, .f32⟩
  | 53 => ⟨S4096x1, .f32⟩
  | 54 => ⟨S4096x4096, .f32⟩
  | 55 => ⟨S4096x4096, .f32⟩
  | 56 => ⟨S_, .f32⟩
  | 57 => ⟨S4096x4096, .f32⟩
  | 58 => ⟨S4096x4096, .i1⟩
  | 59 => ⟨S_, .i1⟩
  | 60 => ⟨S4096, .i1⟩
  | 61 => ⟨S4096x1, .i1⟩
  | 62 => ⟨S_, .f32⟩
  | 63 => ⟨S4096x4096, .i1⟩
  | 64 => ⟨S4096x4096, .f32⟩
  | 65 => ⟨S4096x4096, .f32⟩
  | 66 => ⟨S4096x64, .f32⟩
  | 67 => ⟨S_, .f32⟩
  | 68 => ⟨S4096x64, .f32⟩
  | 69 => ⟨S4096x64, .i1⟩
  | 70 => ⟨S_, .f32⟩
  | 71 => ⟨S4096x64, .f32⟩
  | 72 => ⟨S4096x64, .i1⟩
  | 73 => ⟨S_, .f32⟩
  | 74 => ⟨S_, .f32⟩
  | 75 => ⟨S4096x64, .f32⟩
  | 76 => ⟨S4096x64, .f32⟩
  | 77 => ⟨S4096x64, .f32⟩
  | 78 => ⟨S_, .f32⟩
  | 79 => ⟨S4096x64, .f32⟩
  | 80 => ⟨S4096x64, .f32⟩
  | 81 => ⟨S4096x64, .f32⟩
  | 82 => ⟨S4096x32, .f32⟩
  | 83 => ⟨S4096x32, .f32⟩
  | 84 => ⟨S32x4096, .f32⟩
  | 85 => ⟨S4096x4096, .f32⟩
  | 86 => ⟨S_, .f32⟩
  | 87 => ⟨S_, .f32⟩
  | 88 => ⟨S4096x4096, .f32⟩
  | 89 => ⟨S4096x4096, .f32⟩
  | 90 => ⟨S4096x64, .f32⟩
  | 91 => ⟨S64, .f32⟩
  | 92 => ⟨S4096, .f32⟩
  | 93 => ⟨S64, .f32⟩
  | 94 => ⟨S4096, .f32⟩
  | 95 => ⟨S4096x1, .f32⟩
  | 96 => ⟨S1x4096, .f32⟩
  | 97 => ⟨S4096x4096, .f32⟩
  | 98 => ⟨S4096x4096, .f32⟩
  | 99 => ⟨S4096x4096, .f32⟩
  | 100 => ⟨S_, .f32⟩
  | 101 => ⟨S_, .f32⟩
  | 102 => ⟨S4096x4096, .f32⟩
  | 103 => ⟨S4096x4096, .i1⟩
  | 104 => ⟨S_, .f32⟩
  | 105 => ⟨S4096x4096, .f32⟩
  | 106 => ⟨S4096x4096, .f32⟩
  | 107 => ⟨S4096x4096, .f32⟩
  | 108 => ⟨S4096x4096, .f32⟩
  | 109 => ⟨S_, .f32⟩
  | 110 => ⟨S4096x4096, .f32⟩
  | 111 => ⟨S4096x4096, .i1⟩
  | 112 => ⟨S_, .f32⟩
  | 113 => ⟨S_, .f32⟩
  | 114 => ⟨S4096x4096, .f32⟩
  | 115 => ⟨S4096x4096, .f32⟩
  | 116 => ⟨S_, .f32⟩
  | 117 => ⟨S4096, .f32⟩
  | 118 => ⟨S_, .f32⟩
  | 119 => ⟨S4096, .f32⟩
  | 120 => ⟨S4096, .f32⟩
  | 121 => ⟨S4096x1, .f32⟩
  | 122 => ⟨S4096x4096, .f32⟩
  | 123 => ⟨S4096x4096, .f32⟩
  | 124 => ⟨S4096x4096, .f32⟩
  | 125 => ⟨S_, .f32⟩
  | 126 => ⟨S4096, .f32⟩
  | 127 => ⟨S4096x1, .f32⟩
  | _ => ⟨S4096x128, .f32⟩

abbrev hbmTy0_2 (i : Nat) : BufTy := match i % 128 with
  | 0 => ⟨S4096x4096, .f32⟩
  | 1 => ⟨S4096x4096, .f32⟩
  | 2 => ⟨S_, .f32⟩
  | 3 => ⟨S4096x4096, .f32⟩
  | 4 => ⟨S4096x4096, .i1⟩
  | 5 => ⟨S_, .i1⟩
  | 6 => ⟨S4096, .i1⟩
  | 7 => ⟨S4096x1, .i1⟩
  | 8 => ⟨S_, .f32⟩
  | 9 => ⟨S4096x4096, .i1⟩
  | 10 => ⟨S4096x4096, .f32⟩
  | 11 => ⟨S4096x4096, .f32⟩
  | 12 => ⟨S4096x64, .f32⟩
  | 13 => ⟨S_, .f32⟩
  | 14 => ⟨S4096x64, .f32⟩
  | 15 => ⟨S4096x64, .i1⟩
  | 16 => ⟨S_, .f32⟩
  | 17 => ⟨S4096x64, .f32⟩
  | 18 => ⟨S4096x64, .i1⟩
  | 19 => ⟨S_, .f32⟩
  | 20 => ⟨S_, .f32⟩
  | 21 => ⟨S4096x64, .f32⟩
  | 22 => ⟨S4096x64, .f32⟩
  | 23 => ⟨S4096x64, .f32⟩
  | 24 => ⟨S_, .f32⟩
  | 25 => ⟨S4096x64, .f32⟩
  | 26 => ⟨S4096x64, .f32⟩
  | 27 => ⟨S4096x64, .f32⟩
  | 28 => ⟨S4096x256, .f32⟩
  | 29 => ⟨S4096x128, .f32⟩
  | 30 => ⟨S128, .f32⟩
  | 31 => ⟨S4096, .f32⟩
  | 32 => ⟨S128, .f32⟩
  | 33 => ⟨S4096, .f32⟩
  | 34 => ⟨S4096x1, .f32⟩
  | 35 => ⟨S1x4096, .f32⟩
  | 36 => ⟨S4096x4096, .f32⟩
  | 37 => ⟨S4096x4096, .f32⟩
  | 38 => ⟨S4096x4096, .f32⟩
  | 39 => ⟨S_, .f32⟩
  | 40 => ⟨S_, .f32⟩
  | 41 => ⟨S4096x4096, .f32⟩
  | 42 => ⟨S4096x4096, .i1⟩
  | 43 => ⟨S_, .f32⟩
  | 44 => ⟨S4096x4096, .f32⟩
  | 45 => ⟨S4096x4096, .f32⟩
  | 46 => ⟨S4096x4096, .f32⟩
  | 47 => ⟨S_, .f32⟩
  | 48 => ⟨S4096x4096, .f32⟩
  | 49 => ⟨S4096x4096, .i1⟩
  | 50 => ⟨S_, .f32⟩
  | 51 => ⟨S_, .f32⟩
  | 52 => ⟨S4096x4096, .f32⟩
  | 53 => ⟨S4096x4096, .f32⟩
  | 54 => ⟨S_, .f32⟩
  | 55 => ⟨S4096, .f32⟩
  | 56 => ⟨S_, .f32⟩
  | 57 => ⟨S4096, .f32⟩
  | 58 => ⟨S4096, .f32⟩
  | 59 => ⟨S4096x1, .f32⟩
  | 60 => ⟨S4096x4096, .f32⟩
  | 61 => ⟨S4096x4096, .f32⟩
  | 62 => ⟨S4096x4096, .f32⟩
  | 63 => ⟨S_, .f32⟩
  | 64 => ⟨S4096, .f32⟩
  | 65 => ⟨S4096x1, .f32⟩
  | 66 => ⟨S4096x4096, .f32⟩
  | 67 => ⟨S4096x4096, .f32⟩
  | 68 => ⟨S_, .f32⟩
  | 69 => ⟨S4096x4096, .f32⟩
  | 70 => ⟨S4096x4096, .i1⟩
  | 71 => ⟨S_, .i1⟩
  | 72 => ⟨S4096, .i1⟩
  | 73 => ⟨S4096x1, .i1⟩
  | 74 => ⟨S_, .f32⟩
  | 75 => ⟨S4096x4096, .i1⟩
  | 76 => ⟨S4096x4096, .f32⟩
  | 77 => ⟨S4096x4096, .f32⟩
  | 78 => ⟨S4096x128, .f32⟩
  | 79 => ⟨S4096x128, .f32⟩
  | _ => ⟨S4096x128, .f32⟩

abbrev hbmTy (i : Nat) : BufTy := match i / 128 with
  | 0 => hbmTy0_0 i
  | 1 => hbmTy0_1 i
  | 2 => hbmTy0_2 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_v26 : Ref sig .tc := ⟨.hbm, 56, rfl⟩
abbrev main_c : Ref sig .tc := ⟨.hbm, 57, rfl⟩
abbrev main_v27 : Ref sig .tc := ⟨.hbm, 58, rfl⟩
abbrev main_v28 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_v29 : Ref sig .tc := ⟨.hbm, 63, rfl⟩
abbrev main_v30 : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_cst_0 : Ref sig .tc := ⟨.hbm, 68, rfl⟩
abbrev main_call3_v2 : Ref sig .tc := ⟨.hbm, 69, rfl⟩
abbrev main_call3_v3 : Ref sig .tc := ⟨.hbm, 70, rfl⟩
abbrev main_call3_cst_1 : Ref sig .tc := ⟨.hbm, 71, rfl⟩
abbrev main_call3_call0_v0 : Ref sig .tc := ⟨.hbm, 72, rfl⟩
abbrev main_call3_call0_v1 : Ref sig .tc := ⟨.hbm, 73, rfl⟩
abbrev main_call3_v4 : Ref sig .tc := ⟨.hbm, 74, rfl⟩
abbrev main_call3_v5 : Ref sig .tc := ⟨.hbm, 75, rfl⟩
abbrev main_call3_cst_2 : Ref sig .tc := ⟨.hbm, 76, rfl⟩
abbrev main_call3_v6 : Ref sig .tc := ⟨.hbm, 77, rfl⟩
abbrev main_call3_v7 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_7 : Ref sig .tc := ⟨.hbm, 90, rfl⟩
abbrev main_call4_cst : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_v42 : Ref sig .tc := ⟨.hbm, 97, rfl⟩
abbrev main_cst_8 : Ref sig .tc := ⟨.hbm, 98, rfl⟩
abbrev main_v43 : Ref sig .tc := ⟨.hbm, 99, rfl⟩
abbrev main_v44 : Ref sig .tc := ⟨.hbm, 100, rfl⟩
abbrev main_cst_9 : Ref sig .tc := ⟨.hbm, 101, rfl⟩
abbrev main_call5_v0 : Ref sig .tc := ⟨.hbm, 102, rfl⟩
abbrev main_call5_v1 : Ref sig .tc := ⟨.hbm, 103, rfl⟩
abbrev main_v45 : Ref sig .tc := ⟨.hbm, 104, rfl⟩
abbrev main_cst_10 : Ref sig .tc := ⟨.hbm, 105, rfl⟩
abbrev main_v46 : Ref sig .tc := ⟨.hbm, 106, rfl⟩
abbrev main_cst_11 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_12 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_cst_13 : Ref sig .tc := ⟨.hbm, 119, rfl⟩
abbrev main_v57 : Ref sig .tc := ⟨.hbm, 120, rfl⟩
abbrev main_v58 : Ref sig .tc := ⟨.hbm, 121, rfl⟩
abbrev main_c_14 : Ref sig .tc := ⟨.hbm, 122, rfl⟩
abbrev main_v59 : Ref sig .tc := ⟨.hbm, 123, rfl⟩
abbrev main_v60 : Ref sig .tc := ⟨.hbm, 124, rfl⟩
abbrev main_cst_15 : Ref sig .tc := ⟨.hbm, 125, rfl⟩
abbrev main_call6_v0 : Ref sig .tc := ⟨.hbm, 126, rfl⟩
abbrev main_call6_v1 : Ref sig .tc := ⟨.hbm, 127, rfl⟩
abbrev main_v61 : Ref sig .tc := ⟨.hbm, 128, rfl⟩
abbrev main_v62 : Ref sig .tc := ⟨.hbm, 129, rfl⟩
abbrev main_call7_cst : Ref sig .tc := ⟨.hbm, 130, rfl⟩
abbrev main_call7_v0 : Ref sig .tc := ⟨.hbm, 131, rfl⟩
abbrev main_call7_v1 : Ref sig .tc := ⟨.hbm, 132, rfl⟩
abbrev main_call7_cst_0 : Ref sig .tc := ⟨.hbm, 133, rfl⟩
abbrev main_call7_v2 : Ref sig .tc := ⟨.hbm, 134, rfl⟩
abbrev main_call7_v3 : Ref sig .tc := ⟨.hbm, 135, rfl⟩
abbrev main_call7_cst_1 : Ref sig .tc := ⟨.hbm, 136, rfl⟩
abbrev main_call7_call0_v0 : Ref sig .tc := ⟨.hbm, 137, rfl⟩
abbrev main_call7_call0_v1 : Ref sig .tc := ⟨.hbm, 138, rfl⟩
abbrev main_call7_v4 : Ref sig .tc := ⟨.hbm, 139, rfl⟩
abbrev main_call7_v5 : Ref sig .tc := ⟨.hbm, 140, rfl⟩
abbrev main_call7_cst_2 : Ref sig .tc := ⟨.hbm, 141, rfl⟩
abbrev main_call7_v6 : Ref sig .tc := ⟨.hbm, 142, rfl⟩
abbrev main_call7_v7 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_16 : Ref sig .tc := ⟨.hbm, 155, rfl⟩
abbrev main_call8_cst : Ref sig .tc := ⟨.hbm, 156, rfl⟩
abbrev main_call8_v0 : Ref sig .tc := ⟨.hbm, 157, rfl⟩
abbrev main_call8_v1 : Ref sig .tc := ⟨.hbm, 158, rfl⟩
abbrev main_call8_v2 : Ref sig .tc := ⟨.hbm, 159, rfl⟩
abbrev main_call8_v3 : Ref sig .tc := ⟨.hbm, 160, rfl⟩
abbrev main_call8_v4 : Ref sig .tc := ⟨.hbm, 161, rfl⟩
abbrev main_v74 : Ref sig .tc := ⟨.hbm, 162, rfl⟩
abbrev main_cst_17 : Ref sig .tc := ⟨.hbm, 163, rfl⟩
abbrev main_v75 : Ref sig .tc := ⟨.hbm, 164, rfl⟩
abbrev main_v76 : Ref sig .tc := ⟨.hbm, 165, rfl⟩
abbrev main_cst_18 : Ref sig .tc := ⟨.hbm, 166, rfl⟩
abbrev main_call9_v0 : Ref sig .tc := ⟨.hbm, 167, rfl⟩
abbrev main_call9_v1 : Ref sig .tc := ⟨.hbm, 168, rfl⟩
abbrev main_v77 : Ref sig .tc := ⟨.hbm, 169, rfl⟩
abbrev main_cst_19 : Ref sig .tc := ⟨.hbm, 170, rfl⟩
abbrev main_v78 : Ref sig .tc := ⟨.hbm, 171, rfl⟩
abbrev main_cst_20 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_cst_21 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_cst_22 : Ref sig .tc := ⟨.hbm, 184, rfl⟩
abbrev main_v89 : Ref sig .tc := ⟨.hbm, 185, rfl⟩
abbrev main_v90 : Ref sig .tc := ⟨.hbm, 186, rfl⟩
abbrev main_c_23 : Ref sig .tc := ⟨.hbm, 187, rfl⟩
abbrev main_v91 : Ref sig .tc := ⟨.hbm, 188, rfl⟩
abbrev main_v92 : Ref sig .tc := ⟨.hbm, 189, rfl⟩
abbrev main_cst_24 : Ref sig .tc := ⟨.hbm, 190, rfl⟩
abbrev main_call10_v0 : Ref sig .tc := ⟨.hbm, 191, rfl⟩
abbrev main_call10_v1 : Ref sig .tc := ⟨.hbm, 192, rfl⟩
abbrev main_v93 : Ref sig .tc := ⟨.hbm, 193, rfl⟩
abbrev main_v94 : Ref sig .tc := ⟨.hbm, 194, rfl⟩
abbrev main_call11_cst : Ref sig .tc := ⟨.hbm, 195, rfl⟩
abbrev main_call11_v0 : Ref sig .tc := ⟨.hbm, 196, rfl⟩
abbrev main_call11_v1 : Ref sig .tc := ⟨.hbm, 197, rfl⟩
abbrev main_call11_cst_0 : Ref sig .tc := ⟨.hbm, 198, rfl⟩
abbrev main_call11_v2 : Ref sig .tc := ⟨.hbm, 199, rfl⟩
abbrev main_call11_v3 : Ref sig .tc := ⟨.hbm, 200, rfl⟩
abbrev main_call11_cst_1 : Ref sig .tc := ⟨.hbm, 201, rfl⟩
abbrev main_call11_call0_v0 : Ref sig .tc := ⟨.hbm, 202, rfl⟩
abbrev main_call11_call0_v1 : Ref sig .tc := ⟨.hbm, 203, rfl⟩
abbrev main_call11_v4 : Ref sig .tc := ⟨.hbm, 204, rfl⟩
abbrev main_call11_v5 : Ref sig .tc := ⟨.hbm, 205, rfl⟩
abbrev main_call11_cst_2 : Ref sig .tc := ⟨.hbm, 206, rfl⟩
abbrev main_call11_v6 : Ref sig .tc := ⟨.hbm, 207, rfl⟩
abbrev main_call11_v7 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_cst_25 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_v112 : Ref sig .tc := ⟨.hbm, 227, rfl⟩
abbrev main_cst_26 : Ref sig .tc := ⟨.hbm, 228, rfl⟩
abbrev main_call12_cst : Ref sig .tc := ⟨.hbm, 229, rfl⟩
abbrev main_call12_v0 : Ref sig .tc := ⟨.hbm, 230, rfl⟩
abbrev main_call12_v1 : Ref sig .tc := ⟨.hbm, 231, rfl⟩
abbrev main_call12_v2 : Ref sig .tc := ⟨.hbm, 232, rfl⟩
abbrev main_call12_v3 : Ref sig .tc := ⟨.hbm, 233, rfl⟩
abbrev main_call12_v4 : Ref sig .tc := ⟨.hbm, 234, rfl⟩
abbrev main_v113 : Ref sig .tc := ⟨.hbm, 235, rfl⟩
abbrev main_v114 : Ref sig .tc := ⟨.hbm, 236, rfl⟩
abbrev main_cst_27 : Ref sig .tc := ⟨.hbm, 237, rfl⟩
abbrev main_v115 : Ref sig .tc := ⟨.hbm, 238, rfl⟩
abbrev main_v116 : Ref sig .tc := ⟨.hbm, 239, rfl⟩
abbrev main_cst_28 : Ref sig .tc := ⟨.hbm, 240, rfl⟩
abbrev main_call13_v0 : Ref sig .tc := ⟨.hbm, 241, rfl⟩
abbrev main_call13_v1 : Ref sig .tc := ⟨.hbm, 242, rfl⟩
abbrev main_v117 : Ref sig .tc := ⟨.hbm, 243, rfl⟩
abbrev main_cst_29 : Ref sig .tc := ⟨.hbm, 244, rfl⟩
abbrev main_v118 : Ref sig .tc := ⟨.hbm, 245, rfl⟩
abbrev main_cst_30 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_v124 : Ref sig .tc := ⟨.hbm, 252, rfl⟩
abbrev main_cst_31 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_cst_32 : Ref sig .tc := ⟨.hbm, 258, rfl⟩
abbrev main_v129 : Ref sig .tc := ⟨.hbm, 259, rfl⟩
abbrev main_v130 : Ref sig .tc := ⟨.hbm, 260, rfl⟩
abbrev main_c_33 : Ref sig .tc := ⟨.hbm, 261, rfl⟩
abbrev main_v131 : Ref sig .tc := ⟨.hbm, 262, rfl⟩
abbrev main_v132 : Ref sig .tc := ⟨.hbm, 263, rfl⟩
abbrev main_cst_34 : Ref sig .tc := ⟨.hbm, 264, rfl⟩
abbrev main_call14_v0 : Ref sig .tc := ⟨.hbm, 265, rfl⟩
abbrev main_call14_v1 : Ref sig .tc := ⟨.hbm, 266, rfl⟩
abbrev main_v133 : Ref sig .tc := ⟨.hbm, 267, rfl⟩
abbrev main_v134 : Ref sig .tc := ⟨.hbm, 268, rfl⟩
abbrev main_call15_cst : Ref sig .tc := ⟨.hbm, 269, rfl⟩
abbrev main_call15_v0 : Ref sig .tc := ⟨.hbm, 270, rfl⟩
abbrev main_call15_v1 : Ref sig .tc := ⟨.hbm, 271, rfl⟩
abbrev main_call15_cst_0 : Ref sig .tc := ⟨.hbm, 272, rfl⟩
abbrev main_call15_v2 : Ref sig .tc := ⟨.hbm, 273, rfl⟩
abbrev main_call15_v3 : Ref sig .tc := ⟨.hbm, 274, rfl⟩
abbrev main_call15_cst_1 : Ref sig .tc := ⟨.hbm, 275, rfl⟩
abbrev main_call15_call0_v0 : Ref sig .tc := ⟨.hbm, 276, rfl⟩
abbrev main_call15_call0_v1 : Ref sig .tc := ⟨.hbm, 277, rfl⟩
abbrev main_call15_v4 : Ref sig .tc := ⟨.hbm, 278, rfl⟩
abbrev main_call15_v5 : Ref sig .tc := ⟨.hbm, 279, rfl⟩
abbrev main_call15_cst_2 : Ref sig .tc := ⟨.hbm, 280, rfl⟩
abbrev main_call15_v6 : Ref sig .tc := ⟨.hbm, 281, rfl⟩
abbrev main_call15_v7 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_v139 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_cst_35 : Ref sig .tc := ⟨.hbm, 295, rfl⟩
abbrev main_call16_cst : Ref sig .tc := ⟨.hbm, 296, rfl⟩
abbrev main_call16_v0 : Ref sig .tc := ⟨.hbm, 297, rfl⟩
abbrev main_call16_v1 : Ref sig .tc := ⟨.hbm, 298, rfl⟩
abbrev main_call16_v2 : Ref sig .tc := ⟨.hbm, 299, rfl⟩
abbrev main_call16_v3 : Ref sig .tc := ⟨.hbm, 300, rfl⟩
abbrev main_call16_v4 : Ref sig .tc := ⟨.hbm, 301, rfl⟩
abbrev main_v147 : Ref sig .tc := ⟨.hbm, 302, rfl⟩
abbrev main_cst_36 : Ref sig .tc := ⟨.hbm, 303, rfl⟩
abbrev main_v148 : Ref sig .tc := ⟨.hbm, 304, rfl⟩
abbrev main_v149 : Ref sig .tc := ⟨.hbm, 305, rfl⟩
abbrev main_cst_37 : Ref sig .tc := ⟨.hbm, 306, rfl⟩
abbrev main_call17_v0 : Ref sig .tc := ⟨.hbm, 307, rfl⟩
abbrev main_call17_v1 : Ref sig .tc := ⟨.hbm, 308, rfl⟩
abbrev main_v150 : Ref sig .tc := ⟨.hbm, 309, rfl⟩
abbrev main_cst_38 : Ref sig .tc := ⟨.hbm, 310, rfl⟩
abbrev main_v151 : Ref sig .tc := ⟨.hbm, 311, rfl⟩
abbrev main_cst_39 : Ref sig .tc := ⟨.hbm, 312, rfl⟩
abbrev main_v152 : Ref sig .tc := ⟨.hbm, 313, rfl⟩
abbrev main_v153 : Ref sig .tc := ⟨.hbm, 314, rfl⟩
abbrev main_v154 : Ref sig .tc := ⟨.hbm, 315, rfl⟩
abbrev main_v155 : Ref sig .tc := ⟨.hbm, 316, rfl⟩
abbrev main_v156 : Ref sig .tc := ⟨.hbm, 317, rfl⟩
abbrev main_v157 : Ref sig .tc := ⟨.hbm, 318, rfl⟩
abbrev main_cst_40 : Ref sig .tc := ⟨.hbm, 319, rfl⟩
abbrev main_v158 : Ref sig .tc := ⟨.hbm, 320, rfl⟩
abbrev main_v159 : Ref sig .tc := ⟨.hbm, 321, rfl⟩
abbrev main_v160 : Ref sig .tc := ⟨.hbm, 322, rfl⟩
abbrev main_v161 : Ref sig .tc := ⟨.hbm, 323, rfl⟩
abbrev main_cst_41 : Ref sig .tc := ⟨.hbm, 324, rfl⟩
abbrev main_v162 : Ref sig .tc := ⟨.hbm, 325, rfl⟩
abbrev main_v163 : Ref sig .tc := ⟨.hbm, 326, rfl⟩
abbrev main_c_42 : Ref sig .tc := ⟨.hbm, 327, rfl⟩
abbrev main_v164 : Ref sig .tc := ⟨.hbm, 328, rfl⟩
abbrev main_v165 : Ref sig .tc := ⟨.hbm, 329, rfl⟩
abbrev main_cst_43 : Ref sig .tc := ⟨.hbm, 330, rfl⟩
abbrev main_call18_v0 : Ref sig .tc := ⟨.hbm, 331, rfl⟩
abbrev main_call18_v1 : Ref sig .tc := ⟨.hbm, 332, rfl⟩
abbrev main_v166 : Ref sig .tc := ⟨.hbm, 333, rfl⟩
abbrev main_v167 : Ref sig .tc := ⟨.hbm, 334, rfl⟩
abbrev main_v168 : Ref sig .tc := ⟨.hbm, 335, rfl⟩

abbrev nD : Nat := 1
abbrev τ : Topo := Topo.v7x

variable {F : FTy → Type} [FloatOps F]
-- ==== Proof.Loads.lean ====
module

public import Idealize.ShloMosaic.Lib.VecWindow
public import Idealize.ShloMosaic.Lib.Pipeline.FrameBody
public import Idealize.ShloMosaic.Lib.Exec

@[expose] public section

/-! # What a load reads of a buffer at known contents

Each load of a body goes through a rectangle of a whole buffer. The buffer is either at contents known from before or
has just been filled by one store of its own size; in both cases the load reads the contents at the rectangle. -/

noncomputable section

namespace Cert.Loads

open Idealize.ShloMosaic

variable {sig : RefSig} {κ : Kind} {sp : Space} {s : Shape} {e : EltTy} {Val : EltTy → Type}

/-- A rectangle of the buffer's own size is the whole buffer. -/
theorem ld_full (X : s.Idx → Val e) {off : Fin s.rank → ℕ} (inb : ∀ a, off a + s.size a ≤ s.size a) :
    View.ld (Val := Val) (e' := e) X (Rect.unit off s.size inb) = X := by
  funext y
  show X ((Rect.unit off s.size inb).idx y) = X y
  congr 1
  funext a
  apply Fin.ext
  show off a + 1 * (y a).val = (y a).val
  have := inb a
  omega

/-- A load of a buffer at the contents `X`. -/
theorem readAt_unread {M : Memref sig κ sp s e} (h : M.IsWhole) (X : s.Idx → Val e) (r : Rect s) :
    View.readAt Val M.view r.toLoadRect (h.unread X) = View.ld (Val := Val) (e' := e) X r := by
  rw [View.readAt_eq_ld, h.read_unread]

/-- A load of a buffer just filled by one store of its own size. -/
theorem readCov_full [∀ e, Nonempty (Val e)] (v : View sig κ sp s e) {off : Fin s.rank → ℕ} (inb : ∀ a, off a + s.size a ≤ s.size a)
    (w : (Rect.unit off s.size inb).shape.Idx → Val e) (r : Rect s) :
    v.readCov [⟨Rect.unit off s.size inb, w⟩] r.toLoadRect = View.ld (Val := Val) (S := s) (e' := e) w r := by
  funext j
  show v.read Val (v.writes Val v.junk [⟨Rect.unit off s.size inb, w⟩]) (r.idx j) = w (r.idx j)
  rw [View.read_writes_full]

end Cert.Loads

end
-- ==== Proof.KernelIdeal.Pass1Body.lean ====
module

public import proofs.«01_k».proof.Proof.Gen.KernelIdeal.Points
public import proofs.«01_k».proof.Proof.Gen.KernelIdeal.Skeleton
public import proofs.«01_k».proof.Proof.Loads
public import Idealize.ShloMosaic.Lib.Ring
public import Idealize.ShloMosaic.Lib.Tactic
public import Idealize.ShloMosaic.Lib.WordCmp

@[expose] public section

/-! # The first kernel's body, as one step from named contents to named contents

The body fills eight scratch buffers at the first grid point and reads them at every point. `Scr` lists what the
scratch holds, `scr` computes it from the whole inputs, `head0` … `head3` are the four slabs of columns the body writes
at a point and `out` the block they make up. -/

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the eight scratch buffers hold once they are filled. -/
structure Scr (F : FTy → Type) [FloatOps F] where
  wh : Vec F S4096x512 .bf16
  e1 : Vec F S4096x4 .bf16
  g1 : Vec F S4096x4 .bf16
  f2 : Vec F S4x4096 .bf16
  h2 : Vec F S4x4096 .bf16
  q : Vec F S4096x32 .bf16
  kt : Vec F S32x4096 .bf16
  sum : Vec F S1x256 .f32

/-- The scratch computed from the features, the intents, the weights and the attention vectors. -/
def scr (x0 : Vec F S4096x128 .f32) (x2 : Vec F S4096x32 .f32) (x3 : Vec F S128x256 .f32) (x4 : Vec F S256x4 .f32) (x5 : Vec F S4x256 .f32) (x6 : Vec F S32x32 .f32) (x7 : Vec F S32x32 .f32) : Scr F where
  wh := k0_pay3 x0 x3
  e1 := k0_pay5 x0 x3 x4
  g1 := k0_pay6 x0 x3 x4
  f2 := k0_pay8 (k0_pay7 x0 x3 x5)
  h2 := k0_pay9 (k0_pay7 x0 x3 x5)
  q := k0_pay10 x2 x6
  kt := k0_pay11 x2 x7
  sum := k0_pay12 (k0_pay2 x0 x3)

/-- The rows the point `i` reads of the row factors, and of the queries. -/
abbrev rows (i : grid0.Coords) : Rect S4096x4 := Rect.unit (s := S4096x4) (k0_off1 i) S512x4.size (k0_off1_inb i)
abbrev rowsQ (i : grid0.Coords) : Rect S4096x32 := Rect.unit (s := S4096x32) (k0_off2 i) S512x32.size (k0_off2_inb i)

/-- The row factors the point `i` reads. -/
abbrev eOf (i : grid0.Coords) (s : Scr F) : Vec F S512x4 .bf16 := View.ld (Val := Elt F) (e' := .bf16) s.e1 (rows i)
abbrev gOf (i : grid0.Coords) (s : Scr F) : Vec F S512x4 .bf16 := View.ld (Val := Elt F) (e' := .bf16) s.g1 (rows i)

/-- The columns of one head: of the features with their ones, of the sums, of the output block. -/
abbrev wh0 (s : Scr F) : Vec F S4096x128 .bf16 := View.ld (Val := Elt F) (e' := .bf16) s.wh (Rect.unit (s := S4096x512) ![0, 0] S4096x128.size inb_S4096x512_S4096x128_0_0)
abbrev wh1 (s : Scr F) : Vec F S4096x128 .bf16 := View.ld (Val := Elt F) (e' := .bf16) s.wh (Rect.unit (s := S4096x512) ![0, 128] S4096x128.size inb_S4096x512_S4096x128_0_128)
abbrev wh2 (s : Scr F) : Vec F S4096x128 .bf16 := View.ld (Val := Elt F) (e' := .bf16) s.wh (Rect.unit (s := S4096x512) ![0, 256] S4096x128.size inb_S4096x512_S4096x128_0_256)
abbrev wh3 (s : Scr F) : Vec F S4096x128 .bf16 := View.ld (Val := Elt F) (e' := .bf16) s.wh (Rect.unit (s := S4096x512) ![0, 384] S4096x128.size inb_S4096x512_S4096x128_0_384)
abbrev sum0 (s : Scr F) : Vec F S1x64 .f32 := View.ld (Val := Elt F) (e' := .f32) s.sum (Rect.unit (s := S1x256) ![0, 0] S1x64.size inb_S1x256_S1x64_0_0)
abbrev sum1 (s : Scr F) : Vec F S1x64 .f32 := View.ld (Val := Elt F) (e' := .f32) s.sum (Rect.unit (s := S1x256) ![0, 64] S1x64.size inb_S1x256_S1x64_0_64)
abbrev sum2 (s : Scr F) : Vec F S1x64 .f32 := View.ld (Val := Elt F) (e' := .f32) s.sum (Rect.unit (s := S1x256) ![0, 128] S1x64.size inb_S1x256_S1x64_0_128)
abbrev sum3 (s : Scr F) : Vec F S1x64 .f32 := View.ld (Val := Elt F) (e' := .f32) s.sum (Rect.unit (s := S1x256) ![0, 192] S1x64.size inb_S1x256_S1x64_0_192)

/-- The first spatial head's slab at the point `i`. -/
def head0 (i : grid0.Coords) (x1 : Vec F S512x4096 .f32) (s : Scr F) : Vec F S512x64 .f32 :=
  k0_pay19 (k0_pay16 x1 (eOf i s) (gOf i s) s.f2 s.h2 (wh0 s)) (k0_pay17 x1 (eOf i s) (gOf i s) s.f2 s.h2 (wh0 s)) k0_pay18 (sum0 s)

/-- The second spatial head's slab. -/
def head1 (i : grid0.Coords) (x1 : Vec F S512x4096 .f32) (s : Scr F) : Vec F S512x64 .f32 :=
  k0_pay23 (k0_pay20 (k0_pay13 x1) (eOf i s) (gOf i s) s.f2 s.h2 (wh1 s)) (k0_pay21 (k0_pay13 x1) (eOf i s) (gOf i s) s.f2 s.h2 (wh1 s))
    (k0_pay22 (k0_pay13 x1) (eOf i s) (gOf i s) s.f2 s.h2 (wh1 s)) (sum1 s)

/-- The third spatial head's slab. -/
def head2 (i : grid0.Coords) (x1 : Vec F S512x4096 .f32) (s : Scr F) : Vec F S512x64 .f32 :=
  k0_pay29 (k0_pay25 (k0_pay13 x1) (eOf i s) (gOf i s) s.f2 s.h2 (wh2 s)) (k0_pay26 (k0_pay13 x1) (eOf i s) (gOf i s) s.f2 s.h2 (wh2 s))
    (k0_pay27 (sum2 s)) (k0_pay28 (k0_pay13 x1) (eOf i s) (gOf i s) s.f2 s.h2 (wh2 s))

/-- The factor of the intent head at the point `i`. -/
def eqk (i : grid0.Coords) (s : Scr F) : FVec F S512x4096 .bf16 := k0_pay15 (View.ld (Val := Elt F) (e' := .bf16) s.q (rowsQ i)) s.kt

/-- The intent head's slab. -/
def head3 (i : grid0.Coords) (x1 : Vec F S512x4096 .f32) (s : Scr F) : Vec F S512x64 .f32 :=
  k0_pay1 (k0_pay32 (k0_pay13 x1) (eOf i s) (gOf i s) s.f2 s.h2 (eqk i s) (wh3 s)) (k0_pay33 (sum3 s))
    (k0_pay34 (k0_pay13 x1) (eOf i s) (gOf i s) s.f2 s.h2 (eqk i s) (wh3 s)) (k0_pay35 (k0_pay13 x1) (eOf i s) (gOf i s) s.f2 s.h2 (eqk i s) (wh3 s))

/-- The four stores into the output block, the last first. -/
def slabs (i : grid0.Coords) (x1 : Vec F S512x4096 .f32) (s : Scr F) : List (View.Piece (Elt F) S512x256 .f32) :=
  [⟨Rect.unit (s := S512x256) ![0, 192] S512x64.size inb_S512x256_S512x64_0_192, head3 i x1 s⟩, ⟨Rect.unit (s := S512x256) ![0, 128] S512x64.size inb_S512x256_S512x64_0_128, head2 i x1 s⟩,
   ⟨Rect.unit (s := S512x256) ![0, 64] S512x64.size inb_S512x256_S512x64_0_64, head1 i x1 s⟩, ⟨Rect.unit (s := S512x256) ![0, 0] S512x64.size inb_S512x256_S512x64_0_0, head0 i x1 s⟩]

/-- They tile it. -/
theorem slabs_cover (i : grid0.Coords) (x1 : Vec F S512x4096 .f32) (s : Scr F) (y : S512x256.Idx) : ∃ pc ∈ slabs i x1 s, y ∈ pc.1.set :=
  View.cover_of_tiledL (slabs i x1 s) S512x64.size (by sl_kernel_rfl) y

/-- The block the point `i` writes. -/
def out (i : grid0.Coords) (x1 : Vec F S512x4096 .f32) (s : Scr F) : Vec F S512x256 .f32 := View.canon (slabs i x1 s)

/-- The condition of the body's branch: the first grid point. -/
abbrev first (i : grid0.Coords) : Prop :=
  (Scalar.cmpi .ne (Scalar.extui (Scalar.cmpi .eq (BitVec.ofNat 32 (i 0).val) 0#32)) 0#32) = 1#1

section Body

variable (c : Dev nD) (i : grid0.Coords)
  (arg1 : Memref sig .tc .vmem S4096x128 .f32) (harg1 : arg1.IsWhole) (arg2 : Memref sig .tc .vmem S512x4096 .f32) (harg2 : arg2.IsWhole)
  (arg3 : Memref sig .tc .vmem S4096x32 .f32) (harg3 : arg3.IsWhole) (arg4 : Memref sig .tc .vmem S128x256 .f32) (harg4 : arg4.IsWhole)
  (arg5 : Memref sig .tc .vmem S256x4 .f32) (harg5 : arg5.IsWhole) (arg6 : Memref sig .tc .vmem S4x256 .f32) (harg6 : arg6.IsWhole)
  (arg7 : Memref sig .tc .vmem S32x32 .f32) (harg7 : arg7.IsWhole) (arg8 : Memref sig .tc .vmem S32x32 .f32) (harg8 : arg8.IsWhole)
  (arg9 : Memref sig .tc .vmem S512x256 .f32) (harg9 : arg9.IsWhole) (arg10 : Memref sig .tc .vmem S512x4096 .i8) (harg10 : arg10.IsWhole)
  (arg11 : Memref sig .tc .vmem S4096x512 .bf16) (harg11 : arg11.IsWhole) (arg12 : Memref sig .tc .vmem S4096x4 .bf16) (harg12 : arg12.IsWhole)
  (arg13 : Memref sig .tc .vmem S4096x4 .bf16) (harg13 : arg13.IsWhole) (arg14 : Memref sig .tc .vmem S4x4096 .bf16) (harg14 : arg14.IsWhole)
  (arg15 : Memref sig .tc .vmem S4x4096 .bf16) (harg15 : arg15.IsWhole) (arg16 : Memref sig .tc .vmem S4096x32 .bf16) (harg16 : arg16.IsWhole)
  (arg17 : Memref sig .tc .vmem S32x4096 .bf16) (harg17 : arg17.IsWhole) (arg18 : Memref sig .tc .vmem S1x256 .f32) (harg18 : arg18.IsWhole)

/-- The eight input buffers at their contents. -/
def ins (x0 : Vec F S4096x128 .f32) (x1 : Vec F S512x4096 .f32) (x2 : Vec F S4096x32 .f32) (x3 : Vec F S128x256 .f32) (x4 : Vec F S256x4 .f32) (x5 : Vec F S4x256 .f32) (x6 : Vec F S32x32 .f32) (x7 : Vec F S32x32 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

/-- The eight scratch buffers at the contents `s`. -/
def holds (s : Scr F) : sProp 𝕄 :=
  iprop(owns (c : Thread nD τ) arg11 fullShare s.wh ∗ owns (c : Thread nD τ) arg12 fullShare s.e1 ∗ owns (c : Thread nD τ) arg13 fullShare s.g1 ∗ owns (c : Thread nD τ) arg14 fullShare s.f2 ∗ owns (c : Thread nD τ) arg15 fullShare s.h2 ∗ owns (c : Thread nD τ) arg16 fullShare s.q ∗ owns (c : Thread nD τ) arg17 fullShare s.kt ∗ owns (c : Thread nD τ) arg18 fullShare s.sum)

/-- The eight scratch buffers at any contents. -/
def free : sProp 𝕄 :=
  iprop((∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))

set_option maxHeartbeats 16000000 in
/-- A later point: the scratch stays, the output blocks are `out` and the adjacency's. -/
theorem later (hc : ¬ first i)
    (x0 : Vec F S4096x128 .f32) (x1 : Vec F S512x4096 .f32) (x2 : Vec F S4096x32 .f32) (x3 : Vec F S128x256 .f32) (x4 : Vec F S256x4 .f32) (x5 : Vec F S4x256 .f32) (x6 : Vec F S32x32 .f32) (x7 : Vec F S32x32 .f32) (s : Scr F)
    (E : Set ℕ) (K : PUnit → sProp 𝕄) :
    iprop(ins c arg1 arg2 arg3 arg4 arg5 arg6 arg7 arg8 x0 x1 x2 x3 x4 x5 x6 x7 ∗ (∃ d, owns (c : Thread nD τ) arg9 fullShare d) ∗ (∃ d, owns (c : Thread nD τ) arg10 fullShare d) ∗ holds c arg11 arg12 arg13 arg14 arg15 arg16 arg17 arg18 s
        ∗ (iprop(ins c arg1 arg2 arg3 arg4 arg5 arg6 arg7 arg8 x0 x1 x2 x3 x4 x5 x6 x7 ∗ owns (c : Thread nD τ) arg9 fullShare (out i x1 s) ∗ owns (c : Thread nD τ) arg10 fullShare (k0_pay14 x1) ∗ holds c arg11 arg12 arg13 arg14 arg15 arg16 arg17 arg18 s) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__pass1_kernel_eq_skeleton]; unfold cc0__pass1_kernel_skel
  simp only [k0_part3_eq_skeleton, k0_part4_eq_skeleton, k0_part5_eq_skeleton, k0_part6_eq_skeleton]
  unfold ins holds owns
  have l1 : View.ld (Val := Elt F) x1 (Rect.unit ![0, 0] ![512, 4096] inb_S512x4096_S512x4096_0_0) = x1 := Loads.ld_full x1 _
  have lf : View.ld (Val := Elt F) s.f2 (Rect.unit ![0, 0] ![4, 4096] inb_S4x4096_S4x4096_0_0) = s.f2 := Loads.ld_full s.f2 _
  have lh : View.ld (Val := Elt F) s.h2 (Rect.unit ![0, 0] ![4, 4096] inb_S4x4096_S4x4096_0_0) = s.h2 := Loads.ld_full s.h2 _
  have lk : View.ld (Val := Elt F) s.kt (Rect.unit ![0, 0] ![32, 4096] inb_S32x4096_S32x4096_0_0) = s.kt := Loads.ld_full s.kt _
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5; obtain rfl := harg17.eq_unread hfs6; obtain rfl := harg18.eq_unread hfs7
  sl_exec (disch := first | sl_exact hc)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [H8]
  · iexists _; isplitr
    swap; · iexact H8
    ipureintro
    refine Eq.trans ?_ (View.read_writes_eq_canon arg9.view f8 (slabs i x1 s) (slabs_cover i x1 s))
    sl_unfold_run_names
    simp only [Loads.readAt_unread, l1, lf, lh, lk]
    rfl
  isplitl [H9]
  · iexists _; isplitr
    swap; · iexact H9
    ipureintro
    refine (View.read_writes_full _ _ _ _ _).trans ?_
    simp only [Loads.readAt_unread]
    exact congrArg k0_pay14 (Loads.ld_full x1 _)
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HS3]
  · iexists _; isplitr; · ipureintro; exact harg14.read_unread _
    iexact HS3
  isplitl [HS4]
  · iexists _; isplitr; · ipureintro; exact harg15.read_unread _
    iexact HS4
  isplitl [HS5]
  · iexists _; isplitr; · ipureintro; exact harg16.read_unread _
    iexact HS5
  isplitl [HS6]
  · iexists _; isplitr; · ipureintro; exact harg17.read_unread _
    iexact HS6
  iexists _; isplitr; · ipureintro; exact harg18.read_unread _
  iexact HS7

set_option maxHeartbeats 16000000 in
/-- The first point: the scratch is filled, the output blocks are `out` of it and the adjacency's. -/
theorem initial (hc : first i)
    (x0 : Vec F S4096x128 .f32) (x1 : Vec F S512x4096 .f32) (x2 : Vec F S4096x32 .f32) (x3 : Vec F S128x256 .f32) (x4 : Vec F S256x4 .f32) (x5 : Vec F S4x256 .f32) (x6 : Vec F S32x32 .f32) (x7 : Vec F S32x32 .f32)
    (E : Set ℕ) (K : PUnit → sProp 𝕄) :
    iprop(ins c arg1 arg2 arg3 arg4 arg5 arg6 arg7 arg8 x0 x1 x2 x3 x4 x5 x6 x7 ∗ (∃ d, owns (c : Thread nD τ) arg9 fullShare d) ∗ (∃ d, owns (c : Thread nD τ) arg10 fullShare d) ∗ free c arg11 arg12 arg13 arg14 arg15 arg16 arg17 arg18
        ∗ (iprop(ins c arg1 arg2 arg3 arg4 arg5 arg6 arg7 arg8 x0 x1 x2 x3 x4 x5 x6 x7 ∗ owns (c : Thread nD τ) arg9 fullShare (out i x1 (scr x0 x2 x3 x4 x5 x6 x7)) ∗ owns (c : Thread nD τ) arg10 fullShare (k0_pay14 x1) ∗ holds c arg11 arg12 arg13 arg14 arg15 arg16 arg17 arg18 (scr x0 x2 x3 x4 x5 x6 x7)) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__pass1_kernel_eq_skeleton]; unfold cc0__pass1_kernel_skel
  simp only [k0_part1_eq_skeleton, k0_part2_eq_skeleton, k0_part3_eq_skeleton, k0_part4_eq_skeleton, k0_part5_eq_skeleton, k0_part6_eq_skeleton]
  unfold ins free holds owns
  have r0 : View.readAt (Elt F) arg1.view (Rect.unit ![0, 0] ![4096, 128] inb_S4096x128_S4096x128_0_0).toLoadRect (harg1.unread x0) = x0 :=
    (Loads.readAt_unread harg1 x0 _).trans (Loads.ld_full x0 _)
  have r2 : View.readAt (Elt F) arg3.view (Rect.unit ![0, 0] ![4096, 32] inb_S4096x32_S4096x32_0_0).toLoadRect (harg3.unread x2) = x2 :=
    (Loads.readAt_unread harg3 x2 _).trans (Loads.ld_full x2 _)
  have r3 : View.readAt (Elt F) arg4.view (Rect.unit ![0, 0] ![128, 256] inb_S128x256_S128x256_0_0).toLoadRect (harg4.unread x3) = x3 :=
    (Loads.readAt_unread harg4 x3 _).trans (Loads.ld_full x3 _)
  have r4 : View.readAt (Elt F) arg5.view (Rect.unit ![0, 0] ![256, 4] inb_S256x4_S256x4_0_0).toLoadRect (harg5.unread x4) = x4 :=
    (Loads.readAt_unread harg5 x4 _).trans (Loads.ld_full x4 _)
  have r5 : View.readAt (Elt F) arg6.view (Rect.unit ![0, 0] ![4, 256] inb_S4x256_S4x256_0_0).toLoadRect (harg6.unread x5) = x5 :=
    (Loads.readAt_unread harg6 x5 _).trans (Loads.ld_full x5 _)
  have r6 : View.readAt (Elt F) arg7.view (Rect.unit ![0, 0] ![32, 32] inb_S32x32_S32x32_0_0).toLoadRect (harg7.unread x6) = x6 :=
    (Loads.readAt_unread harg7 x6 _).trans (Loads.ld_full x6 _)
  have r7 : View.readAt (Elt F) arg8.view (Rect.unit ![0, 0] ![32, 32] inb_S32x32_S32x32_0_0).toLoadRect (harg8.unread x7) = x7 :=
    (Loads.readAt_unread harg8 x7 _).trans (Loads.ld_full x7 _)
  have l1 : View.ld (Val := Elt F) x1 (Rect.unit ![0, 0] ![512, 4096] inb_S512x4096_S512x4096_0_0) = x1 := Loads.ld_full x1 _
  have lf : ∀ w : Vec F S4x4096 .bf16, View.ld (Val := Elt F) w (Rect.unit ![0, 0] ![4, 4096] inb_S4x4096_S4x4096_0_0) = w := fun w => Loads.ld_full w _
  have lk : ∀ w : Vec F S32x4096 .bf16, View.ld (Val := Elt F) w (Rect.unit ![0, 0] ![32, 4096] inb_S32x4096_S32x4096_0_0) = w := fun w => Loads.ld_full w _
  have c11 : ∀ (w : Vec F S4096x512 .bf16) (r : Rect S4096x512), arg11.view.readCov (Val := Elt F) [⟨Rect.unit ![0, 0] ![4096, 512] inb_S4096x512_S4096x512_0_0, w⟩] r.toLoadRect = View.ld w r :=
    fun w r => Loads.readCov_full arg11.view _ w r
  have c12 : ∀ (w : Vec F S4096x4 .bf16) (r : Rect S4096x4), arg12.view.readCov (Val := Elt F) [⟨Rect.unit ![0, 0] ![4096, 4] inb_S4096x4_S4096x4_0_0, w⟩] r.toLoadRect = View.ld w r :=
    fun w r => Loads.readCov_full arg12.view _ w r
  have c13 : ∀ (w : Vec F S4096x4 .bf16) (r : Rect S4096x4), arg13.view.readCov (Val := Elt F) [⟨Rect.unit ![0, 0] ![4096, 4] inb_S4096x4_S4096x4_0_0, w⟩] r.toLoadRect = View.ld w r :=
    fun w r => Loads.readCov_full arg13.view _ w r
  have c14 : ∀ (w : Vec F S4x4096 .bf16) (r : Rect S4x4096), arg14.view.readCov (Val := Elt F) [⟨Rect.unit ![0, 0] ![4, 4096] inb_S4x4096_S4x4096_0_0, w⟩] r.toLoadRect = View.ld w r :=
    fun w r => Loads.readCov_full arg14.view _ w r
  have c15 : ∀ (w : Vec F S4x4096 .bf16) (r : Rect S4x4096), arg15.view.readCov (Val := Elt F) [⟨Rect.unit ![0, 0] ![4, 4096] inb_S4x4096_S4x4096_0_0, w⟩] r.toLoadRect = View.ld w r :=
    fun w r => Loads.readCov_full arg15.view _ w r
  have c16 : ∀ (w : Vec F S4096x32 .bf16) (r : Rect S4096x32), arg16.view.readCov (Val := Elt F) [⟨Rect.unit ![0, 0] ![4096, 32] inb_S4096x32_S4096x32_0_0, w⟩] r.toLoadRect = View.ld w r :=
    fun w r => Loads.readCov_full arg16.view _ w r
  have c17 : ∀ (w : Vec F S32x4096 .bf16) (r : Rect S32x4096), arg17.view.readCov (Val := Elt F) [⟨Rect.unit ![0, 0] ![32, 4096] inb_S32x4096_S32x4096_0_0, w⟩] r.toLoadRect = View.ld w r :=
    fun w r => Loads.readCov_full arg17.view _ w r
  have c18 : ∀ (w : Vec F S1x256 .f32) (r : Rect S1x256), arg18.view.readCov (Val := Elt F) [⟨Rect.unit ![0, 0] ![1, 256] inb_S1x256_S1x256_0_0, w⟩] r.toLoadRect = View.ld w r :=
    fun w r => Loads.readCov_full arg18.view _ w r
  have d12 : ∀ (w : Vec F S4096x4 .bf16) (r : Rect S4096x4), View.readAt (Elt F) arg12.view r.toLoadRect (arg12.view.writes (Elt F) arg12.view.junk [⟨Rect.unit ![0, 0] ![4096, 4] inb_S4096x4_S4096x4_0_0, w⟩]) = View.ld w r := c12
  have d13 : ∀ (w : Vec F S4096x4 .bf16) (r : Rect S4096x4), View.readAt (Elt F) arg13.view r.toLoadRect (arg13.view.writes (Elt F) arg13.view.junk [⟨Rect.unit ![0, 0] ![4096, 4] inb_S4096x4_S4096x4_0_0, w⟩]) = View.ld w r := c13
  have d16 : ∀ (w : Vec F S4096x32 .bf16) (r : Rect S4096x32), View.readAt (Elt F) arg16.view r.toLoadRect (arg16.view.writes (Elt F) arg16.view.junk [⟨Rect.unit ![0, 0] ![4096, 32] inb_S4096x32_S4096x32_0_0, w⟩]) = View.ld w r := c16
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, ⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc)
  sl_step
  iapply Hk
  isplitl [H0 H1 H2 H3 H4 H5 H6 H7]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [H8]
  · iexists _; isplitr
    swap; · iexact H8
    ipureintro
    refine Eq.trans ?_ (View.read_writes_eq_canon arg9.view f8 (slabs i x1 (scr x0 x2 x3 x4 x5 x6 x7)) (slabs_cover i x1 _))
    sl_unfold_run_names
    simp only [c11, c12, c13, c14, c15, c16, c17, c18, d12, d13, d16, lf, lk, Loads.readAt_unread, l1]
    rfl
  isplitl [H9]
  · iexists _; isplitr
    swap; · iexact H9
    ipureintro
    refine (View.read_writes_full _ _ _ _ _).trans ?_
    simp only [Loads.readAt_unread]
    exact congrArg k0_pay14 (Loads.ld_full x1 _)
  isplitl [HS0]
  · iexists _; isplitr
    swap; · iexact HS0
    ipureintro
    refine (View.read_writes_full _ _ _ _ _).trans ?_
    sl_unfold_run_names
    try rw [r0]
    try rw [r2]
    try rw [r3]
    try rw [r4]
    try rw [r5]
    try rw [r6]
    try rw [r7]
    rfl
  isplitl [HS1]
  · iexists _; isplitr
    swap; · iexact HS1
    ipureintro
    refine (View.read_writes_full _ _ _ _ _).trans ?_
    sl_unfold_run_names
    try rw [r0]
    try rw [r2]
    try rw [r3]
    try rw [r4]
    try rw [r5]
    try rw [r6]
    try rw [r7]
    rfl
  isplitl [HS2]
  · iexists _; isplitr
    swap; · iexact HS2
    ipureintro
    refine (View.read_writes_full _ _ _ _ _).trans ?_
    sl_unfold_run_names
    try rw [r0]
    try rw [r2]
    try rw [r3]
    try rw [r4]
    try rw [r5]
    try rw [r6]
    try rw [r7]
    rfl
  isplitl [HS3]
  · iexists _; isplitr
    swap; · iexact HS3
    ipureintro
    refine (View.read_writes_full _ _ _ _ _).trans ?_
    sl_unfold_run_names
    try rw [r0]
    try rw [r2]
    try rw [r3]
    try rw [r4]
    try rw [r5]
    try rw [r6]
    try rw [r7]
    rfl
  isplitl [HS4]
  · iexists _; isplitr
    swap; · iexact HS4
    ipureintro
    refine (View.read_writes_full _ _ _ _ _).trans ?_
    sl_unfold_run_names
    try rw [r0]
    try rw [r2]
    try rw [r3]
    try rw [r4]
    try rw [r5]
    try rw [r6]
    try rw [r7]
    rfl
  isplitl [HS5]
  · iexists _; isplitr
    swap; · iexact HS5
    ipureintro
    refine (View.read_writes_full _ _ _ _ _).trans ?_
    sl_unfold_run_names
    try rw [r0]
    try rw [r2]
    try rw [r3]
    try rw [r4]
    try rw [r5]
    try rw [r6]
    try rw [r7]
    rfl
  isplitl [HS6]
  · iexists _; isplitr
    swap; · iexact HS6
    ipureintro
    refine (View.read_writes_full _ _ _ _ _).trans ?_
    sl_unfold_run_names
    try rw [r0]
    try rw [r2]
    try rw [r3]
    try rw [r4]
    try rw [r5]
    try rw [r6]
    try rw [r7]
    rfl
  iexists _; isplitr
  swap; · iexact HS7
  ipureintro
  refine (View.read_writes_full _ _ _ _ _).trans ?_
  sl_unfold_run_names
  try rw [r0]
  try rw [r2]
  try rw [r3]
  try rw [r4]
  try rw [r5]
  try rw [r6]
  try rw [r7]
  rfl

end Body

end Cert.KernelIdeal.Pass1

end
-- ==== Proof.KernelIdeal.Pass1Region.lean ====
module

public import proofs.«01_k».proof.Proof.Gen.KernelIdeal.Launch
public import proofs.«01_k».proof.Proof.KernelIdeal.Pass1Body
public import Idealize.ShloMosaic.Lib.Pipeline.Frame
public import Idealize.ShloMosaic.Lib.Pipeline.FrameBody
public import Idealize.ShloMosaic.Lib.Pipeline.Regions

@[expose] public section

/-! # The first kernel over its grid, from any contents of the arrays

`W` is what the buffers hold when the kernel is called. Each point leaves the block its body computes from the point's
block of the adjacency and the scratch, which the first point fills from the whole inputs. -/

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (W : Dev nD → Valuation τ sig (Elt F))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first point. -/
abbrev t0 : Fin cfg0.N := ⟨0, by rw [show cfg0.N = 8 from N_0]; decide⟩

/-- What the scratch holds from the first point on. -/
def scr0 (c : Dev nD) : Scr F := scr (iblk W c 0 t0) (iblk W c 2 t0) (iblk W c 3 t0) (iblk W c 4 t0) (iblk W c 5 t0) (iblk W c 6 t0) (iblk W c 7 t0)

/-- The branch is taken at the first point only. -/
theorem hfirst (t : Fin cfg0.N) : first (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have key : first (grid0.coords t) ↔ t.val % 8 = 0 := by
      simp only [first, e0]
      word_cmp
    rw [key, Nat.mod_eq_of_lt ht]
   : ∀ t : Fin grid0.N, first (grid0.coords t) ↔ t.val = 0) t

abbrev sc0 : Memref sig .tc .vmem S4096x512 .bf16 := Memref.whole cc0_scratch0
abbrev sc1 : Memref sig .tc .vmem S4096x4 .bf16 := Memref.whole cc0_scratch1
abbrev sc2 : Memref sig .tc .vmem S4096x4 .bf16 := Memref.whole cc0_scratch2
abbrev sc3 : Memref sig .tc .vmem S4x4096 .bf16 := Memref.whole cc0_scratch3
abbrev sc4 : Memref sig .tc .vmem S4x4096 .bf16 := Memref.whole cc0_scratch4
abbrev sc5 : Memref sig .tc .vmem S4096x32 .bf16 := Memref.whole cc0_scratch5
abbrev sc6 : Memref sig .tc .vmem S32x4096 .bf16 := Memref.whole cc0_scratch6
abbrev sc7 : Memref sig .tc .vmem S1x256 .f32 := Memref.whole cc0_scratch7

/-- The scratch at the contents it holds from the first point on. -/
abbrev held (c : Dev nD) : sProp 𝕄 := holds c sc0 sc1 sc2 sc3 sc4 sc5 sc6 sc7 (scr0 W c)

/-- The scratch buffers of this call, and the scoped buffers it has no part in. -/
abbrev scratch : List (Ref sig .tc) := [cc0_scratch0, cc0_scratch1, cc0_scratch2, cc0_scratch3, cc0_scratch4, cc0_scratch5, cc0_scratch6, cc0_scratch7]
abbrev rest (c : Dev nD) : sProp 𝕄 := Pipeline.scopedRestBut (Ix := Unit) (Name := ℕ) (U := UR sig nD τ) (Lvl := ℕ) (Val := Elt F) spec0 c scratch

/-- What stands between the points: before the first, the scratch at anything; afterwards at its contents. -/
def Phi (c : Dev nD) : (n : ℕ) → n ≤ cfg0.N → sProp 𝕄
  | 0, _ => Pipeline.ΦA spec0 c
  | _ + 1, _ => iprop((held W c ∗ rest c) ∗ ∃ r, prngReg c r)

theorem Phi_pos (c : Dev nD) (n : ℕ) (h : n ≤ cfg0.N) (hz : n ≠ 0) : Phi W c n h = iprop((held W c ∗ rest c) ∗ ∃ r, prngReg c r) := by
  cases n with
  | zero => exact absurd rfl hz
  | succ n => rfl

/-- The scratch at anything, buffer by buffer. -/
theorem PhiA_eq (c : Dev nD) :
    (Pipeline.ΦA spec0 c : sProp 𝕄) = iprop((free c sc0 sc1 sc2 sc3 sc4 sc5 sc6 sc7 ∗ rest c) ∗ (∃ r, prngReg c r)) := by
  unfold Pipeline.ΦA
  rw [Pipeline.scopedRest_split_of_list spec0 c scratch (by decide) (by decide)]
  unfold free; simp only [sc0, sc1, sc2, sc3, sc4, sc5, sc6, sc7, owns_whole]; try rfl

/-- The proof data of the call. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => out (grid0.coords t) (iblk W c 1 t) (scr0 W c)
    | ⟨9, _⟩ => k0_pay14 (iblk W c 1 t)
  Φ t := Phi W c t.val (Nat.le_of_lt_succ t.isLt)
  q _ := fullShare
  owed _ := 0

theorem A_eq (c : Dev nD) (w : Fin cfg0.W) : (dat W c).A w = W c (Proc.devRef .tc (Pipeline.arrRef spec0 w)) := by
  dsimp only [dat]

theorem Phi_castSucc (c : Dev nD) (t : Fin cfg0.N) : (dat W c).Φ t.castSucc = Phi W c t.val (Nat.le_of_lt t.isLt) := by
  dsimp only [dat]; exact Pipeline.Dat.Φ_castSucc (Phi W c) t

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = iblk W c 3 t := by dsimp only [dat]
theorem after_4 (c : Dev nD) (t : Fin cfg0.N) : (dat W c).after 4 t = iblk W c 4 t := by dsimp only [dat]
theorem after_5 (c : Dev nD) (t : Fin cfg0.N) : (dat W c).after 5 t = iblk W c 5 t := by dsimp only [dat]
theorem after_6 (c : Dev nD) (t : Fin cfg0.N) : (dat W c).after 6 t = iblk W c 6 t := by dsimp only [dat]
theorem after_7 (c : Dev nD) (t : Fin cfg0.N) : (dat W c).after 7 t = iblk W c 7 t := by dsimp only [dat]
theorem after_8 (c : Dev nD) (t : Fin cfg0.N) : (dat W c).after 8 t = out (grid0.coords t) (iblk W c 1 t) (scr0 W c) := by dsimp only [dat]
theorem after_9 (c : Dev nD) (t : Fin cfg0.N) : (dat W c).after 9 t = k0_pay14 (iblk W c 1 t) := by dsimp only [dat]

/-- Each input's staging buffer holds its block at every point. -/
theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat W c).before 5 t d = iblk W c 5 t :=
  ((dat W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat W c).before 6 t d = iblk W c 6 t :=
  ((dat W c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat W c).before 7 t d = iblk W c 7 t :=
  ((dat W c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

abbrev ms0 (t : Fin cfg0.N) : Memref sig .tc .vmem S4096x128 .f32 := win0_0.stage (cfg0.slots t 0)
abbrev ms1 (t : Fin cfg0.N) : Memref sig .tc .vmem S512x4096 .f32 := win0_1.stage (cfg0.slots t 1)
abbrev ms2 (t : Fin cfg0.N) : Memref sig .tc .vmem S4096x32 .f32 := win0_2.stage (cfg0.slots t 2)
abbrev ms3 (t : Fin cfg0.N) : Memref sig .tc .vmem S128x256 .f32 := win0_3.stage (cfg0.slots t 3)
abbrev ms4 (t : Fin cfg0.N) : Memref sig .tc .vmem S256x4 .f32 := win0_4.stage (cfg0.slots t 4)
abbrev ms5 (t : Fin cfg0.N) : Memref sig .tc .vmem S4x256 .f32 := win0_5.stage (cfg0.slots t 5)
abbrev ms6 (t : Fin cfg0.N) : Memref sig .tc .vmem S32x32 .f32 := win0_6.stage (cfg0.slots t 6)
abbrev ms7 (t : Fin cfg0.N) : Memref sig .tc .vmem S32x32 .f32 := win0_7.stage (cfg0.slots t 7)
abbrev ms8 (t : Fin cfg0.N) : Memref sig .tc .vmem S512x256 .f32 := win0_8.stage (cfg0.slots t 8)
abbrev ms9 (t : Fin cfg0.N) : Memref sig .tc .vmem S512x4096 .i8 := win0_9.stage (cfg0.slots t 9)

/-- What the body is called with at a point, and what it returns. -/
def bodyPre (c : Dev nD) (t : Fin cfg0.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d))
    ∗ (∃ d, owns (c : Thread nD τ) (ms7 t) fullShare ((dat W c).before 7 t d))
    ∗ (∃ d, owns (c : Thread nD τ) (ms8 t) fullShare ((dat W c).before 8 t d))
    ∗ (∃ d, owns (c : Thread nD τ) (ms9 t) fullShare ((dat W c).before 9 t d)))

def bodyPost (c : Dev nD) (t : Fin cfg0.N) : sProp 𝕄 :=
  iprop((dat W c).Φ t.succ ∗ (dat W c).owesAt () t.succ
    ∗ owns (c : Thread nD τ) (ms0 t) fullShare ((dat W c).after 0 t)
    ∗ owns (c : Thread nD τ) (ms1 t) fullShare ((dat W c).after 1 t)
    ∗ owns (c : Thread nD τ) (ms2 t) fullShare ((dat W c).after 2 t)
    ∗ owns (c : Thread nD τ) (ms3 t) fullShare ((dat W c).after 3 t)
    ∗ owns (c : Thread nD τ) (ms4 t) fullShare ((dat W c).after 4 t)
    ∗ owns (c : Thread nD τ) (ms5 t) fullShare ((dat W c).after 5 t)
    ∗ owns (c : Thread nD τ) (ms6 t) fullShare ((dat W c).after 6 t)
    ∗ owns (c : Thread nD τ) (ms7 t) fullShare ((dat W c).after 7 t)
    ∗ owns (c : Thread nD τ) (ms8 t) fullShare ((dat W c).after 8 t)
    ∗ owns (c : Thread nD τ) (ms9 t) fullShare ((dat W c).after 9 t))

set_option maxHeartbeats 3200000 in
/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3, before_4, before_5, before_6, before_7]
  rw [show (dat W c).owesAt () t.succ = (dat W c).owesAt () t.castSucc from rfl,
    after_0, after_1, after_2, after_3, after_4, after_5, after_6, after_7, after_8, after_9]
  rw [show (dat W c).Φ t.succ = Phi W c (t.val + 1) t.isLt from rfl, Phi_pos W c _ _ (Nat.succ_ne_zero _), Phi_castSucc]
  by_cases hz : t.val = 0
  · obtain rfl : t = t0 := Fin.ext hz
    rw [show Phi W c t0.val (Nat.le_of_lt t0.isLt) = Pipeline.ΦA spec0 c from rfl, PhiA_eq]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (initial c (grid0.coords t0) _ _ _ _ _ _ _ _ _ _ _ _ _ _ _ _ _ _ _ _ _ _ _ _ _ _ _ _ _ _ _ _ _ _ _ _ ((hfirst t0).mpr rfl) (iblk W c 0 t0) (iblk W c 1 t0) (iblk W c 2 t0) (iblk W c 3 t0) (iblk W c 4 t0) (iblk W c 5 t0) (iblk W c 6 t0) (iblk W c 7 t0) Set.univ _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [HS]; · iexact HS
    unfold ins
    iintro ⟨⟨H0, H1, H2, H3, H4, H5, H6, H7⟩, H8, H9, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Phi_pos W c _ _ hz]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (later c (grid0.coords t) _ _ _ _ _ _ _ _ _ _ _ _ _ _ _ _ _ _ _ _ _ _ _ _ _ _ _ _ _ _ _ _ _ _ _ _ (fun h => hz ((hfirst t).mp h)) (iblk W c 0 t) (iblk W c 1 t) (iblk W c 2 t) (iblk W c 3 t) (iblk W c 4 t) (iblk W c 5 t) (iblk W c 6 t) (iblk W c 7 t) (scr0 W c) Set.univ _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [HS]; · iexact HS
    unfold ins
    iintro ⟨⟨H0, H1, H2, H3, H4, H5, H6, H7⟩, H8, H9, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point is the body there. -/
theorem row (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) : BodyObligation (dat W c) (defs₀ (F := F)) Variants.none () Set.univ := fun t => by
  rw [bigSep_W0, bigSep_W0, row]
  exact triple_restated (sound_body W c t) rfl .rfl fun _ => .rfl

/-- What the call is handed is the state before the first point, -/
theorem hin (c : Dev nD) : Pipeline.ΦA spec0 c ⊢ (dat W c).Φ 0 := by
  rw [show (dat W c).Φ 0 = Pipeline.ΦA spec0 c from rfl]

/-- and after the last point it is given back. -/
theorem hout (c : Dev nD) : (dat W c).Φ (Fin.last cfg0.N) ⊢ Pipeline.ΦA spec0 c := by
  rw [show (dat W c).Φ (Fin.last cfg0.N) = Phi W c cfg0.N le_rfl from rfl, Phi_pos W c _ _ (by rw [show cfg0.N = 8 from N_0]; decide), PhiA_eq]
  unfold held holds free
  iintro ⟨⟨⟨H0, H1, H2, H3, H4, H5, H6, H7⟩, Hr⟩, Hg⟩
  isplitl [H0 H1 H2 H3 H4 H5 H6 H7 Hr]
  · isplitl [H0 H1 H2 H3 H4 H5 H6 H7]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      iexists _; iexact H7
    iexact Hr
  iexact Hg

end Cert.KernelIdeal.Pass1

end
-- ==== Proof.KernelIdeal.Pass2Body.lean ====
module

public import proofs.«01_k».proof.Proof.Gen.KernelIdeal.Points
public import proofs.«01_k».proof.Proof.Gen.KernelIdeal.Skeleton
public import proofs.«01_k».proof.Proof.Loads
public import Idealize.ShloMosaic.Lib.Ring
public import Idealize.ShloMosaic.Lib.Tactic
public import Idealize.ShloMosaic.Lib.WordCmp

@[expose] public section

/-! # The second kernel's body, as one step from named contents to named contents

The body fills six scratch buffers at the first grid point and reads them at every point. `Scr` lists what the
scratch holds, `scr` computes it from the whole inputs, `out` is the block the body writes at a point. -/

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the six scratch buffers hold once they are filled. -/
structure Scr (F : FTy → Type) [FloatOps F] where
  wh : Vec F S4096x256 .bf16
  e1 : Vec F S4096x1 .bf16
  g1 : Vec F S4096x1 .bf16
  f2 : Vec F S1x4096 .bf16
  h2 : Vec F S1x4096 .bf16
  sum : Vec F S1x128 .f32

/-- The scratch computed from the features, the weights and the two halves of the attention vector. -/
def scr (x0 : Vec F S4096x256 .f32) (x2 : Vec F S256x128 .f32) (x3 : Vec F S128x1 .f32) (x4 : Vec F S1x128 .f32) : Scr F where
  wh := k1_pay3 x0 x2
  e1 := k1_pay5 x0 x2 x3
  g1 := k1_pay6 x0 x2 x3
  f2 := k1_pay8 x0 x2 x4
  h2 := k1_pay9 (k1_pay7 x0 x2 x4)
  sum := k1_pay10 (k1_pay2 x0 x2)

/-- The rows of a column that the point `i` reads. -/
abbrev rows (i : grid1.Coords) : Rect S4096x1 := Rect.unit (s := S4096x1) (k1_off1 i) S1024x1.size (k1_off1_inb i)

/-- The block the point `i` writes, from its block of the adjacency and the scratch. -/
def out (i : grid1.Coords) (x1 : Vec F S1024x4096 .i8) (s : Scr F) : Vec F S1024x128 .f32 :=
  k1_pay1 (k1_pay14 s.sum)
    (k1_pay15 x1 (View.ld (Val := Elt F) (e' := .bf16) s.e1 (rows i)) s.f2 (View.ld (Val := Elt F) (e' := .bf16) s.g1 (rows i)) s.h2 s.wh)
    (k1_pay16 x1 (View.ld (Val := Elt F) (e' := .bf16) s.e1 (rows i)) s.f2 (View.ld (Val := Elt F) (e' := .bf16) s.g1 (rows i)) s.h2 s.wh)

/-- The condition of the body's branch: the first grid point. -/
abbrev first (i : grid1.Coords) : Prop :=
  (Scalar.cmpi .ne (Scalar.extui (Scalar.cmpi .eq (BitVec.ofNat 32 (i 0).val) 0#32)) 0#32) = 1#1

section Body

variable (c : Dev nD) (i : grid1.Coords)
  (arg1 : Memref sig .tc .vmem S4096x256 .f32) (harg1 : arg1.IsWhole) (arg2 : Memref sig .tc .vmem S1024x4096 .i8) (harg2 : arg2.IsWhole)
  (arg3 : Memref sig .tc .vmem S256x128 .f32) (harg3 : arg3.IsWhole) (arg4 : Memref sig .tc .vmem S128x1 .f32) (harg4 : arg4.IsWhole)
  (arg5 : Memref sig .tc .vmem S1x128 .f32) (harg5 : arg5.IsWhole) (arg6 : Memref sig .tc .vmem S1024x128 .f32) (harg6 : arg6.IsWhole)
  (arg7 : Memref sig .tc .vmem S4096x256 .bf16) (harg7 : arg7.IsWhole) (arg8 : Memref sig .tc .vmem S4096x1 .bf16) (harg8 : arg8.IsWhole)
  (arg9 : Memref sig .tc .vmem S4096x1 .bf16) (harg9 : arg9.IsWhole) (arg10 : Memref sig .tc .vmem S1x4096 .bf16) (harg10 : arg10.IsWhole)
  (arg11 : Memref sig .tc .vmem S1x4096 .bf16) (harg11 : arg11.IsWhole) (arg12 : Memref sig .tc .vmem S1x128 .f32) (harg12 : arg12.IsWhole)

/-- The five input buffers at their contents. -/
def ins (x0 : Vec F S4096x256 .f32) (x1 : Vec F S1024x4096 .i8) (x2 : Vec F S256x128 .f32) (x3 : Vec F S128x1 .f32) (x4 : Vec F S1x128 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4)

/-- The six scratch buffers at the contents `s`. -/
def holds (s : Scr F) : sProp 𝕄 :=
  iprop(owns (c : Thread nD τ) arg7 fullShare s.wh ∗ owns (c : Thread nD τ) arg8 fullShare s.e1 ∗ owns (c : Thread nD τ) arg9 fullShare s.g1
    ∗ owns (c : Thread nD τ) arg10 fullShare s.f2 ∗ owns (c : Thread nD τ) arg11 fullShare s.h2 ∗ owns (c : Thread nD τ) arg12 fullShare s.sum)

/-- The six scratch buffers at any contents. -/
def free : sProp 𝕄 :=
  iprop((∃ d, owns (c : Thread nD τ) arg7 fullShare d) ∗ (∃ d, owns (c : Thread nD τ) arg8 fullShare d) ∗ (∃ d, owns (c : Thread nD τ) arg9 fullShare d)
    ∗ (∃ d, owns (c : Thread nD τ) arg10 fullShare d) ∗ (∃ d, owns (c : Thread nD τ) arg11 fullShare d) ∗ (∃ d, owns (c : Thread nD τ) arg12 fullShare d))

set_option maxHeartbeats 4000000 in
/-- A later point: the scratch stays, the output block is `out`. -/
theorem later (hc : ¬ first i)
    (x0 : Vec F S4096x256 .f32) (x1 : Vec F S1024x4096 .i8) (x2 : Vec F S256x128 .f32) (x3 : Vec F S128x1 .f32) (x4 : Vec F S1x128 .f32) (s : Scr F)
    (E : Set ℕ) (K : PUnit → sProp 𝕄) :
    iprop(ins c arg1 arg2 arg3 arg4 arg5 x0 x1 x2 x3 x4 ∗ (∃ d, owns (c : Thread nD τ) arg6 fullShare d) ∗ holds c arg7 arg8 arg9 arg10 arg11 arg12 s
        ∗ (iprop(ins c arg1 arg2 arg3 arg4 arg5 x0 x1 x2 x3 x4 ∗ owns (c : Thread nD τ) arg6 fullShare (out i x1 s) ∗ holds c arg7 arg8 arg9 arg10 arg11 arg12 s) -∗ K ⟨⟩))
      ⊢ wp frame (wpE (defs₀ (F := F)) Variants.none c none) E
          (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part2_eq_skeleton]
  unfold ins holds owns
  have l1 : View.ld (Val := Elt F) x1 (Rect.unit ![0, 0] ![1024, 4096] inb_S1024x4096_S1024x4096_0_0) = x1 := Loads.ld_full x1 _
  have lf : View.ld (Val := Elt F) s.f2 (Rect.unit ![0, 0] ![1, 4096] inb_S1x4096_S1x4096_0_0) = s.f2 := Loads.ld_full s.f2 _
  have lh : View.ld (Val := Elt F) s.h2 (Rect.unit ![0, 0] ![1, 4096] inb_S1x4096_S1x4096_0_0) = s.h2 := Loads.ld_full s.h2 _
  have lw : View.ld (Val := Elt F) s.wh (Rect.unit ![0, 0] ![4096, 256] inb_S4096x256_S4096x256_0_0) = s.wh := Loads.ld_full s.wh _
  have ls : View.ld (Val := Elt F) s.sum (Rect.unit ![0, 0] ![1, 128] inb_S1x128_S1x128_0_0) = s.sum := Loads.ld_full s.sum _
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
  sl_exec (disch := first | sl_exact hc)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr
    swap; · iexact H5
    ipureintro
    refine (View.read_writes_full _ _ _ _ _).trans ?_
    unfold out later.sl.r later.sl.r_1 later.sl.r_2
    simp only [Loads.readAt_unread, l1, lf, lh, lw, ls]
  isplitl [HS0]
  · iexists _; isplitr; · ipureintro; exact harg7.read_unread _
    iexact HS0
  isplitl [HS1]
  · iexists _; isplitr; · ipureintro; exact harg8.read_unread _
    iexact HS1
  isplitl [HS2]
  · iexists _; isplitr; · ipureintro; exact harg9.read_unread _
    iexact HS2
  isplitl [HS3]
  · iexists _; isplitr; · ipureintro; exact harg10.read_unread _
    iexact HS3
  isplitl [HS4]
  · iexists _; isplitr; · ipureintro; exact harg11.read_unread _
    iexact HS4
  iexists _; isplitr; · ipureintro; exact harg12.read_unread _
  iexact HS5

set_option maxHeartbeats 8000000 in
/-- The first point: the scratch is filled, the output block is `out` of it. -/
theorem initial (hc : first i)
    (x0 : Vec F S4096x256 .f32) (x1 : Vec F S1024x4096 .i8) (x2 : Vec F S256x128 .f32) (x3 : Vec F S128x1 .f32) (x4 : Vec F S1x128 .f32)
    (E : Set ℕ) (K : PUnit → sProp 𝕄) :
    iprop(ins c arg1 arg2 arg3 arg4 arg5 x0 x1 x2 x3 x4 ∗ (∃ d, owns (c : Thread nD τ) arg6 fullShare d) ∗ free c arg7 arg8 arg9 arg10 arg11 arg12
        ∗ (iprop(ins c arg1 arg2 arg3 arg4 arg5 x0 x1 x2 x3 x4 ∗ owns (c : Thread nD τ) arg6 fullShare (out i x1 (scr x0 x2 x3 x4)) ∗ holds c arg7 arg8 arg9 arg10 arg11 arg12 (scr x0 x2 x3 x4)) -∗ K ⟨⟩))
      ⊢ wp frame (wpE (defs₀ (F := F)) Variants.none c none) E
          (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton, k1_part2_eq_skeleton]
  unfold ins free holds owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨⟨%d6, %fs0, -, HS0⟩, ⟨%d7, %fs1, -, HS1⟩, ⟨%d8, %fs2, -, HS2⟩, ⟨%d9, %fs3, -, HS3⟩, ⟨%d10, %fs4, -, HS4⟩, ⟨%d11, %fs5, -, HS5⟩⟩, Hk⟩
  have e0 : View.ld x0 (Rect.unit ![0, 0] ![4096, 256] inb_S4096x256_S4096x256_0_0) = x0 := Loads.ld_full x0 _
  have e2 : View.ld x2 (Rect.unit ![0, 0] ![256, 128] inb_S256x128_S256x128_0_0) = x2 := Loads.ld_full x2 _
  have e3 : View.ld x3 (Rect.unit ![0, 0] ![128, 1] inb_S128x1_S128x1_0_0) = x3 := Loads.ld_full x3 _
  have e4 : View.ld x4 (Rect.unit ![0, 0] ![1, 128] inb_S1x128_S1x128_0_0) = x4 := Loads.ld_full x4 _
  have r0 : View.readAt (Elt F) arg1.view (Rect.unit ![0, 0] ![4096, 256] inb_S4096x256_S4096x256_0_0).toLoadRect (harg1.unread x0) = x0 :=
    (Loads.readAt_unread harg1 x0 _).trans e0
  have r2 : View.readAt (Elt F) arg3.view (Rect.unit ![0, 0] ![256, 128] inb_S256x128_S256x128_0_0).toLoadRect (harg3.unread x2) = x2 :=
    (Loads.readAt_unread harg3 x2 _).trans e2
  have e1 : View.ld x1 (Rect.unit ![0, 0] ![1024, 4096] inb_S1024x4096_S1024x4096_0_0) = x1 := Loads.ld_full x1 _
  have lf : ∀ w : Vec F S1x4096 .bf16, View.ld (Val := Elt F) w (Rect.unit ![0, 0] ![1, 4096] inb_S1x4096_S1x4096_0_0) = w := fun w => Loads.ld_full w _
  have ls : ∀ w : Vec F S1x128 .f32, View.ld (Val := Elt F) w (Rect.unit ![0, 0] ![1, 128] inb_S1x128_S1x128_0_0) = w := fun w => Loads.ld_full w _
  have lw : ∀ w : Vec F S4096x256 .bf16, View.ld (Val := Elt F) w (Rect.unit ![0, 0] ![4096, 256] inb_S4096x256_S4096x256_0_0) = w := fun w => Loads.ld_full w _
  have c7 : ∀ (w : Vec F S4096x256 .bf16) (r : Rect S4096x256), arg7.view.readCov (Val := Elt F) [⟨Rect.unit ![0, 0] ![4096, 256] inb_S4096x256_S4096x256_0_0, w⟩] r.toLoadRect = View.ld w r :=
    fun w r => Loads.readCov_full arg7.view _ w r
  have c8 : ∀ (w : Vec F S4096x1 .bf16) (r : Rect S4096x1), arg8.view.readCov (Val := Elt F) [⟨Rect.unit ![0, 0] ![4096, 1] inb_S4096x1_S4096x1_0_0, w⟩] r.toLoadRect = View.ld w r :=
    fun w r => Loads.readCov_full arg8.view _ w r
  have d8 : ∀ (w : Vec F S4096x1 .bf16) (r : Rect S4096x1), View.readAt (Elt F) arg8.view r.toLoadRect (arg8.view.writes (Elt F) arg8.view.junk [⟨Rect.unit ![0, 0] ![4096, 1] inb_S4096x1_S4096x1_0_0, w⟩]) = View.ld w r := c8
  have c9 : ∀ (w : Vec F S4096x1 .bf16) (r : Rect S4096x1), arg9.view.readCov (Val := Elt F) [⟨Rect.unit ![0, 0] ![4096, 1] inb_S4096x1_S4096x1_0_0, w⟩] r.toLoadRect = View.ld w r :=
    fun w r => Loads.readCov_full arg9.view _ w r
  have d9 : ∀ (w : Vec F S4096x1 .bf16) (r : Rect S4096x1), View.readAt (Elt F) arg9.view r.toLoadRect (arg9.view.writes (Elt F) arg9.view.junk [⟨Rect.unit ![0, 0] ![4096, 1] inb_S4096x1_S4096x1_0_0, w⟩]) = View.ld w r := c9
  have c10 : ∀ (w : Vec F S1x4096 .bf16) (r : Rect S1x4096), arg10.view.readCov (Val := Elt F) [⟨Rect.unit ![0, 0] ![1, 4096] inb_S1x4096_S1x4096_0_0, w⟩] r.toLoadRect = View.ld w r :=
    fun w r => Loads.readCov_full arg10.view _ w r
  have c11 : ∀ (w : Vec F S1x4096 .bf16) (r : Rect S1x4096), arg11.view.readCov (Val := Elt F) [⟨Rect.unit ![0, 0] ![1, 4096] inb_S1x4096_S1x4096_0_0, w⟩] r.toLoadRect = View.ld w r :=
    fun w r => Loads.readCov_full arg11.view _ w r
  have c12 : ∀ (w : Vec F S1x128 .f32) (r : Rect S1x128), arg12.view.readCov (Val := Elt F) [⟨Rect.unit ![0, 0] ![1, 128] inb_S1x128_S1x128_0_0, w⟩] r.toLoadRect = View.ld w r :=
    fun w r => Loads.readCov_full arg12.view _ w r
  obtain rfl := harg1.eq_unread hf0; obtain rfl := harg2.eq_unread hf1; obtain rfl := harg3.eq_unread hf2; obtain rfl := harg4.eq_unread hf3; obtain rfl := harg5.eq_unread hf4
  sl_exec (disch := first | sl_exact hc)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; · ipureintro; exact harg5.read_unread _
    iexact H4
  isplitl [H5]
  · iexists _; isplitr
    swap; · iexact H5
    ipureintro
    refine (View.read_writes_full _ _ _ _ _).trans ?_
    sl_unfold_run_names
    simp only [c7, c8, c9, c10, c11, c12, d8, d9, lf, ls, lw, Loads.readAt_unread, e0, e1, e2, e3, e4]
    rfl
  isplitl [HS0]
  · iexists _; isplitr
    swap; · iexact HS0
    ipureintro
    refine (View.read_writes_full _ _ _ _ _).trans ?_
    sl_unfold_run_names
    try rw [r0]
    try rw [r2]
    simp only [scr, Loads.readAt_unread, e0, e2, e3, e4]
    try rfl
  isplitl [HS1]
  · iexists _; isplitr
    swap; · iexact HS1
    ipureintro
    refine (View.read_writes_full _ _ _ _ _).trans ?_
    sl_unfold_run_names
    try rw [r0]
    try rw [r2]
    simp only [scr, Loads.readAt_unread, e0, e2, e3, e4]
    try rfl
  isplitl [HS2]
  · iexists _; isplitr
    swap; · iexact HS2
    ipureintro
    refine (View.read_writes_full _ _ _ _ _).trans ?_
    sl_unfold_run_names
    try rw [r0]
    try rw [r2]
    simp only [scr, Loads.readAt_unread, e0, e2, e3, e4]
    try rfl
  isplitl [HS3]
  · iexists _; isplitr
    swap; · iexact HS3
    ipureintro
    refine (View.read_writes_full _ _ _ _ _).trans ?_
    sl_unfold_run_names
    try rw [r0]
    try rw [r2]
    simp only [scr, Loads.readAt_unread, e0, e2, e3, e4]
    try rfl
  isplitl [HS4]
  · iexists _; isplitr
    swap; · iexact HS4
    ipureintro
    refine (View.read_writes_full _ _ _ _ _).trans ?_
    sl_unfold_run_names
    try rw [r0]
    try rw [r2]
    simp only [scr, Loads.readAt_unread, e0, e2, e3, e4]
    try rfl
  iexists _; isplitr
  swap; · iexact HS5
  ipureintro
  refine (View.read_writes_full _ _ _ _ _).trans ?_
  sl_unfold_run_names
  simp only [scr, out, Loads.readAt_unread, Loads.ld_full, Loads.readCov_full, e0, e2, e3, e4]
  try rfl

end Body

end Cert.KernelIdeal.Pass2

end
-- ==== Proof.KernelIdeal.Pass2Region.lean ====
module

public import proofs.«01_k».proof.Proof.Gen.KernelIdeal.Launch
public import proofs.«01_k».proof.Proof.KernelIdeal.Pass2Body
public import Idealize.ShloMosaic.Lib.Pipeline.Frame
public import Idealize.ShloMosaic.Lib.Pipeline.FrameBody
public import Idealize.ShloMosaic.Lib.Pipeline.Regions

@[expose] public section

/-! # The second kernel over its grid, from any contents of the arrays

`W` is what the buffers hold when the kernel is called. Each point leaves the block its body computes from the point's
block of the adjacency and the scratch, which the first point fills from the whole inputs. -/

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (W : Dev nD → Valuation τ sig (Elt F))

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first point. -/
abbrev t0 : Fin cfg1.N := ⟨0, by rw [show cfg1.N = 4 from N_1]; decide⟩

/-- What the scratch holds from the first point on. -/
def scr0 (c : Dev nD) : Scr F := scr (iblk W c 0 t0) (iblk W c 2 t0) (iblk W c 3 t0) (iblk W c 4 t0)

/-- The branch is taken at the first point only. -/
theorem hfirst (t : Fin cfg1.N) : first (grid1.coords t) ↔ t.val = 0 :=
  (fun t => by
    have ht : t.val < 4 := Nat.lt_of_lt_of_eq t.isLt N_1
    have e0 : (grid1.coords t 0).val = t.val / 1 % 4 := Pipeline.Grid.coords_val t 0 (by decide) rfl
    have key : first (grid1.coords t) ↔ t.val % 4 = 0 := by
      simp only [first, e0]
      word_cmp
    rw [key, Nat.mod_eq_of_lt ht]
   : ∀ t : Fin grid1.N, first (grid1.coords t) ↔ t.val = 0) t

abbrev sc0 : Memref sig .tc .vmem S4096x256 .bf16 := Memref.whole cc1_scratch0
abbrev sc1 : Memref sig .tc .vmem S4096x1 .bf16 := Memref.whole cc1_scratch1
abbrev sc2 : Memref sig .tc .vmem S4096x1 .bf16 := Memref.whole cc1_scratch2
abbrev sc3 : Memref sig .tc .vmem S1x4096 .bf16 := Memref.whole cc1_scratch3
abbrev sc4 : Memref sig .tc .vmem S1x4096 .bf16 := Memref.whole cc1_scratch4
abbrev sc5 : Memref sig .tc .vmem S1x128 .f32 := Memref.whole cc1_scratch5

/-- The scratch at the contents it holds from the first point on. -/
abbrev held (c : Dev nD) : sProp 𝕄 := holds c sc0 sc1 sc2 sc3 sc4 sc5 (scr0 W c)

/-- The scratch buffers of this call, and the scoped buffers it has no part in. -/
abbrev scratch : List (Ref sig .tc) := [cc1_scratch0, cc1_scratch1, cc1_scratch2, cc1_scratch3, cc1_scratch4, cc1_scratch5]
abbrev rest (c : Dev nD) : sProp 𝕄 := Pipeline.scopedRestBut (Ix := Unit) (Name := ℕ) (U := UR sig nD τ) (Lvl := ℕ) (Val := Elt F) spec1 c scratch

/-- What stands between the points: before the first, the scratch at anything; afterwards at its contents. -/
def Phi (c : Dev nD) : (n : ℕ) → n ≤ cfg1.N → sProp 𝕄
  | 0, _ => Pipeline.ΦA spec1 c
  | _ + 1, _ => iprop((held W c ∗ rest c) ∗ ∃ r, prngReg c r)

theorem Phi_pos (c : Dev nD) (n : ℕ) (h : n ≤ cfg1.N) (hz : n ≠ 0) : Phi W c n h = iprop((held W c ∗ rest c) ∗ ∃ r, prngReg c r) := by
  cases n with
  | zero => exact absurd rfl hz
  | succ n => rfl

/-- The scratch at anything, buffer by buffer. -/
theorem PhiA_eq (c : Dev nD) :
    (Pipeline.ΦA spec1 c : sProp 𝕄) = iprop((free c sc0 sc1 sc2 sc3 sc4 sc5 ∗ rest c) ∗ (∃ r, prngReg c r)) := by
  unfold Pipeline.ΦA
  rw [Pipeline.scopedRest_split_of_list spec1 c scratch (by decide) (by decide)]
  unfold free; simp only [sc0, sc1, sc2, sc3, sc4, sc5, owns_whole]; try rfl

/-- The proof data of the call. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => out (grid1.coords t) (iblk W c 1 t) (scr0 W c)
  Φ t := Phi W c t.val (Nat.le_of_lt_succ t.isLt)
  q _ := fullShare
  owed _ := 0

theorem A_eq (c : Dev nD) (w : Fin cfg1.W) : (dat W c).A w = W c (Proc.devRef .tc (Pipeline.arrRef spec1 w)) := by
  dsimp only [dat]

theorem Phi_castSucc (c : Dev nD) (t : Fin cfg1.N) : (dat W c).Φ t.castSucc = Phi W c t.val (Nat.le_of_lt t.isLt) := by
  dsimp only [dat]; exact Pipeline.Dat.Φ_castSucc (Phi W c) t

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = iblk W c 4 t := by dsimp only [dat]
theorem after_5 (c : Dev nD) (t : Fin cfg1.N) : (dat W c).after 5 t = out (grid1.coords t) (iblk W c 1 t) (scr0 W c) := by dsimp only [dat]

/-- Each input's staging buffer holds its block at every point. -/
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

abbrev ms0 (t : Fin cfg1.N) : Memref sig .tc .vmem S4096x256 .f32 := win1_0.stage (cfg1.slots t 0)
abbrev ms1 (t : Fin cfg1.N) : Memref sig .tc .vmem S1024x4096 .i8 := win1_1.stage (cfg1.slots t 1)
abbrev ms2 (t : Fin cfg1.N) : Memref sig .tc .vmem S256x128 .f32 := win1_2.stage (cfg1.slots t 2)
abbrev ms3 (t : Fin cfg1.N) : Memref sig .tc .vmem S128x1 .f32 := win1_3.stage (cfg1.slots t 3)
abbrev ms4 (t : Fin cfg1.N) : Memref sig .tc .vmem S1x128 .f32 := win1_4.stage (cfg1.slots t 4)
abbrev ms5 (t : Fin cfg1.N) : Memref sig .tc .vmem S1024x128 .f32 := win1_5.stage (cfg1.slots t 5)

/-- What the body is called with at a point, and what it returns. -/
def bodyPre (c : Dev nD) (t : Fin cfg1.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d)))

def bodyPost (c : Dev nD) (t : Fin cfg1.N) : sProp 𝕄 :=
  iprop((dat W c).Φ t.succ ∗ (dat W c).owesAt () t.succ
    ∗ owns (c : Thread nD τ) (ms0 t) fullShare ((dat W c).after 0 t)
    ∗ owns (c : Thread nD τ) (ms1 t) fullShare ((dat W c).after 1 t)
    ∗ owns (c : Thread nD τ) (ms2 t) fullShare ((dat W c).after 2 t)
    ∗ owns (c : Thread nD τ) (ms3 t) fullShare ((dat W c).after 3 t)
    ∗ owns (c : Thread nD τ) (ms4 t) fullShare ((dat W c).after 4 t)
    ∗ owns (c : Thread nD τ) (ms5 t) fullShare ((dat W c).after 5 t))

set_option maxHeartbeats 3200000 in
/-- The body at any point. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4]
  rw [show (dat W c).owesAt () t.succ = (dat W c).owesAt () t.castSucc from rfl,
    after_0, after_1, after_2, after_3, after_4, after_5]
  rw [show (dat W c).Φ t.succ = Phi W c (t.val + 1) t.isLt from rfl, Phi_pos W c _ _ (Nat.succ_ne_zero _), Phi_castSucc]
  by_cases hz : t.val = 0
  · obtain rfl : t = t0 := Fin.ext hz
    rw [show Phi W c t0.val (Nat.le_of_lt t0.isLt) = Pipeline.ΦA spec1 c from rfl, PhiA_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (initial c (grid1.coords t0) _ _ _ _ _ _ _ _ _ _ _ _ _ _ _ _ _ _ _ _ _ _ _ _ ((hfirst t0).mpr rfl) (iblk W c 0 t0) (iblk W c 1 t0) (iblk W c 2 t0) (iblk W c 3 t0) (iblk W c 4 t0) Set.univ _)
    isplitl [H0 H1 H2 H3 H4]
    · unfold ins
      isplitl [H0]; · iexact H0
      isplitl [H1]; · iexact H1
      isplitl [H2]; · iexact H2
      isplitl [H3]; · iexact H3
      iexact H4
    isplitl [H5]; · iexists _; iexact H5
    isplitl [HS]; · iexact HS
    unfold ins
    iintro ⟨⟨H0, H1, H2, H3, H4⟩, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi_pos W c _ _ hz]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (later c (grid1.coords t) _ _ _ _ _ _ _ _ _ _ _ _ _ _ _ _ _ _ _ _ _ _ _ _ (fun h => hz ((hfirst t).mp h)) (iblk W c 0 t) (iblk W c 1 t) (iblk W c 2 t) (iblk W c 3 t) (iblk W c 4 t) (scr0 W c) Set.univ _)
    isplitl [H0 H1 H2 H3 H4]
    · unfold ins
      isplitl [H0]; · iexact H0
      isplitl [H1]; · iexact H1
      isplitl [H2]; · iexact H2
      isplitl [H3]; · iexact H3
      iexact H4
    isplitl [H5]; · iexists _; iexact H5
    isplitl [HS]; · iexact HS
    unfold ins
    iintro ⟨⟨H0, H1, H2, H3, H4⟩, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at a point is the body there. -/
theorem row (t : Fin cfg1.N) : defs₀ (F := F) .tc cfg1.body (cfg1.bodyArgs t (cfg1.slots t)) = bodyAt1 t := by
  unfold defs₀; rw [Defs.onTc_tc]

/-- The body obligation of the pipeline. -/
theorem body_obligation (c : Dev nD) : BodyObligation (dat W c) (defs₀ (F := F)) Variants.none () Set.univ := fun t => by
  rw [bigSep_W1, bigSep_W1, row]
  exact triple_restated (sound_body W c t) rfl .rfl fun _ => .rfl

/-- What the call is handed is the state before the first point, -/
theorem hin (c : Dev nD) : Pipeline.ΦA spec1 c ⊢ (dat W c).Φ 0 := by
  rw [show (dat W c).Φ 0 = Pipeline.ΦA spec1 c from rfl]

/-- and after the last point it is given back. -/
theorem hout (c : Dev nD) : (dat W c).Φ (Fin.last cfg1.N) ⊢ Pipeline.ΦA spec1 c := by
  rw [show (dat W c).Φ (Fin.last cfg1.N) = Phi W c cfg1.N le_rfl from rfl, Phi_pos W c _ _ (by rw [show cfg1.N = 4 from N_1]; decide), PhiA_eq]
  unfold held holds free
  iintro ⟨⟨⟨H0, H1, H2, H3, H4, H5⟩, Hr⟩, Hg⟩
  isplitl [H0 H1 H2 H3 H4 H5 Hr]
  · isplitl [H0 H1 H2 H3 H4 H5]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    iexact Hr
  iexact Hg

end Cert.KernelIdeal.Pass2

end
-- ==== Proof.KernelIdeal.RunAll.lean ====
module

public import proofs.«01_k».proof.Proof.Gen.KernelIdeal.Regions
public import proofs.«01_k».proof.Proof.KernelIdeal.Pass1Region
public import proofs.«01_k».proof.Proof.KernelIdeal.Pass2Region
public import Idealize.ShloMosaic.Lib.Pipeline.RegionArraysS
public import Idealize.ShloMosaic.Lib.StableHlo.RunHlo

@[expose] public section

/-! # The whole program: the host's preparation, the first kernel, the second kernel

From any memory every execution ends, and in the final memory every array holds what the three parts leave in it:
`W1` after the host's operations, `W2` after the first kernel, `W3` after the second. -/

set_option maxRecDepth 16384

noncomputable section

namespace Cert.KernelIdeal.RunAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- What the buffers hold when the first kernel is called. -/
def W1 (c : Dev nD) : Valuation τ sig (Elt F) := V1 m c
/-- What they hold when the second kernel is called. -/
def W2 (c : Dev nD) : Valuation τ sig (Elt F) := Pipeline.afterRegion (Pass1.dat (W1 m) c) (W1 m c)
/-- What they hold at the end. -/
def W3 (c : Dev nD) : Valuation τ sig (Elt F) := Pipeline.afterRegion (Pass2.dat (W2 m) c) (W2 m c)

/-- The proof data of the two calls. -/
def pdats : (p : Fin 2) → (c : Dev nD) → Dat τ (Elt F) Unit ℕ (UR sig nD τ) ℕ (cfgs p) c
  | ⟨0, _⟩ => fun c => Pass1.dat (W1 m) c
  | ⟨1, _⟩ => fun c => Pass2.dat (W2 m) c

/-- Every semaphore of a TensorCore has the one level. -/
def L : GSem nD τ sig → Finset Unit := fun g => if g.1.2 = .tc then {()} else ∅
def lv : GSem nD τ sig → Unit → ℕ := fun _ _ => 0

theorem cut (p : Fin 2) : Pipeline.LevelCut (nD := nD) (τ := τ) (pcfgs (F := F)) adm () L lv p (fun _ => 0) (fun _ => 0) where
  hι c w s := by unfold L; rw [if_pos rfl]; exact Finset.mem_singleton_self _
  hιb c w s := le_refl _
  hD c g i h := absurd h (lt_irrefl 0)

/-- The generator register rides beside the buffers. -/
def X (c : Dev nD) : sProp 𝕄 := iprop(∃ r, prngReg c r)

set_option backward.isDefEq.respectTransparency.types false in
/-- The first call's segment. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) X X
    (launch0.toP) rfl (fun c => (Pass1.body_obligation (W1 m) c).loose) (fun _ _ => rfl) (fun _ => rfl)
    (fun c => (Pass1.dat (W1 m) c).share_full fun _ => rfl) (fun c => Pass1.hin (W1 m) c) (fun c => Pass1.hout (W1 m) c)
    (fun _ => 0) (cut 0) (fun _ => iprop(emp)) (W1 m) (fun c w => rfl)

set_option backward.isDefEq.respectTransparency.types false in
/-- The second call's segment. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) X X
    (launch1.toP) rfl (fun c => (Pass2.body_obligation (W2 m) c).loose) (fun _ _ => rfl) (fun _ => rfl)
    (fun c => (Pass2.dat (W2 m) c).share_full fun _ => rfl) (fun c => Pass2.hin (W2 m) c) (fun c => Pass2.hout (W2 m) c)
    (fun _ => 0) (cut 1) (fun _ => iprop(emp)) (W2 m) (fun c w => rfl)

/-- What a core carries beside its buffers between two parts of the program. -/
def carry (c : Dev nD) : sProp 𝕄 :=
  iprop((∃ Wd, owes (c : Thread nD τ) (0 : CellTallies nD τ sig Unit) Wd) ∗ X c ∗ emp)

theorem uns0 (w) : (Pipeline.arrRef spec0 w).isScoped = false := winFacts0.arr_unscoped w
theorem uns1 (w) : (Pipeline.arrRef spec1 w).isScoped = false := winFacts1.arr_unscoped w
theorem sub0 : Pipeline.arrRefs (τ := τ) (pcfgs (F := F) 0).spec ⊆ Pipeline.ucRefs τ sig := Pipeline.arrRefs_sub_ucRefs _ uns0
theorem sub1 : Pipeline.arrRefs (τ := τ) (pcfgs (F := F) 1).spec ⊆ Pipeline.ucRefs τ sig := Pipeline.arrRefs_sub_ucRefs _ uns1

/-- A core's buffers at a valuation and what rides beside them. -/
def state (V : Dev nD → Valuation τ sig (Elt F)) (c : Dev nD) : sProp 𝕄 :=
  iprop(StableHlo.held (c : Thread nD τ) (Pipeline.ucRefs τ sig) (V c) ∗ carry c)

set_option backward.isDefEq.respectTransparency.types false in
theorem pre0 (c : Dev nD) : state (W1 m) c ⊢ (R0 m).pre c := by
  exact RegionSeg.ofHeldIn_pre (pcs := pcfgs (F := F)) (a := adm) (pdats := pdats m) (ι := ()) (defs₀ := defs₀) (𝒱₀ := Variants.none) (L := L) (lv := lv) (p := 0) (D := fun _ => 0) sub0 (X := X) (Y := X) (b := fun _ => 0) (R := fun _ => iprop(emp)) (W := W1 m) (kit := launch0.toP) (hK := rfl) (hbody := fun c => (Pass1.body_obligation (W1 m) c).loose) (howed := fun _ _ => rfl) (hrec := fun _ => rfl) (hshare := fun c => (Pass1.dat (W1 m) c).share_full fun _ => rfl) (hin := fun c => Pass1.hin (W1 m) c) (hout := fun c => Pass1.hout (W1 m) c) (hcut := cut 0) (hW := fun c w => rfl) c
set_option backward.isDefEq.respectTransparency.types false in
theorem post0 (c : Dev nD) : (R0 m).post c ⊢ state (W2 m) c := by
  exact RegionSeg.ofHeldIn_post (pcs := pcfgs (F := F)) (a := adm) (pdats := pdats m) (ι := ()) (defs₀ := defs₀) (𝒱₀ := Variants.none) (L := L) (lv := lv) (p := 0) (D := fun _ => 0) sub0 (X := X) (Y := X) (b := fun _ => 0) (R := fun _ => iprop(emp)) (W := W1 m) (kit := launch0.toP) (hK := rfl) (hbody := fun c => (Pass1.body_obligation (W1 m) c).loose) (howed := fun _ _ => rfl) (hrec := fun _ => rfl) (hshare := fun c => (Pass1.dat (W1 m) c).share_full fun _ => rfl) (hin := fun c => Pass1.hin (W1 m) c) (hout := fun c => Pass1.hout (W1 m) c) (hcut := cut 0) (hW := fun c w => rfl) c
set_option backward.isDefEq.respectTransparency.types false in
theorem pre1 (c : Dev nD) : state (W2 m) c ⊢ (R1 m).pre c := by
  exact RegionSeg.ofHeldIn_pre (pcs := pcfgs (F := F)) (a := adm) (pdats := pdats m) (ι := ()) (defs₀ := defs₀) (𝒱₀ := Variants.none) (L := L) (lv := lv) (p := 1) (D := fun _ => 0) sub1 (X := X) (Y := X) (b := fun _ => 0) (R := fun _ => iprop(emp)) (W := W2 m) (kit := launch1.toP) (hK := rfl) (hbody := fun c => (Pass2.body_obligation (W2 m) c).loose) (howed := fun _ _ => rfl) (hrec := fun _ => rfl) (hshare := fun c => (Pass2.dat (W2 m) c).share_full fun _ => rfl) (hin := fun c => Pass2.hin (W2 m) c) (hout := fun c => Pass2.hout (W2 m) c) (hcut := cut 1) (hW := fun c w => rfl) c
set_option backward.isDefEq.respectTransparency.types false in
theorem post1 (c : Dev nD) : (R1 m).post c
    ⊢ iprop(StableHlo.held (c : Thread nD τ) (Pipeline.ucRefs τ sig) (W3 m c) ∗ ∃ Wd, owes (c : Thread nD τ) (0 : CellTallies nD τ sig Unit) Wd) := by
  have h : (R1 m).post c ⊢ state (W3 m) c := by
    exact RegionSeg.ofHeldIn_post (pcs := pcfgs (F := F)) (a := adm) (pdats := pdats m) (ι := ()) (defs₀ := defs₀) (𝒱₀ := Variants.none) (L := L) (lv := lv) (p := 1) (D := fun _ => 0) sub1 (X := X) (Y := X) (b := fun _ => 0) (R := fun _ => iprop(emp)) (W := W2 m) (kit := launch1.toP) (hK := rfl) (hbody := fun c => (Pass2.body_obligation (W2 m) c).loose) (howed := fun _ _ => rfl) (hrec := fun _ => rfl) (hshare := fun c => (Pass2.dat (W2 m) c).share_full fun _ => rfl) (hin := fun c => Pass2.hin (W2 m) c) (hout := fun c => Pass2.hout (W2 m) c) (hcut := cut 1) (hW := fun c w => rfl) c
  refine h.trans ?_
  unfold state carry
  iintro ⟨Hh, HO, -⟩
  isplitl [Hh] <;> iassumption

set_option maxHeartbeats 1000000 in
set_option backward.isDefEq.respectTransparency.types false in
/-- Every execution of the program ends, and every array then holds what `W3` says. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = W3 m c b) ∧ r.2.sem = fun _ => 0) := by
  refine Pipeline.θ_run_regions_kit_dev_sems (pcfgs (F := F)) adm (pdats m) () cellOf_inj emb₁ defs₀ Variants.none L lv m ρ main
    (segs m Variants.none L lv (fun _ => carry) () (pdats m) (R0 m) (R1 m))
    (fun c Q => by
      rewrite [main_chain c, Seg.run_eq_chain,
        show (segs m Variants.none L lv (fun _ => carry) () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (fun g h => if_neg h) (fun _ => iprop(emp))
    (u₀ := initOf (Pipeline.cells cfgs cellOf_inj) (Pipeline.launchToks cfgs cellOf_inj))
    ?_
    (T₀ := fun c => iprop(StableHlo.held (c : Thread nD τ) (Pipeline.ucRefs τ sig) (V0 m c) ∗ carry c))
    (Tₙ := fun c => StableHlo.held (c : Thread nD τ) (Pipeline.ucRefs τ sig) (W3 m c))
    (hch := fun c => ⟨.rfl, pre0 m c, (post0 m c).trans (pre1 m c), post1 m c⟩)
    (hinit := ?_) (QY := fun c s => ∀ b ∈ Pipeline.ucRefs τ sig, s.mem (c, b) = W3 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold carry X
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    imodintro; iexact Hr

theorem inj0 : Function.Injective (Pipeline.arrRef spec0) := winFacts0.arr_inj
theorem inj1 : Function.Injective (Pipeline.arrRef spec1) := winFacts1.arr_inj

/-- An array that neither the host nor a kernel writes ends as it was. -/
theorem W3_keeps (c : Dev nD) (r : Ref sig .tc) (h : r ∉ hostOps0_W)
    (h0 : ∀ w, Pipeline.arrRef spec0 w = r → (cfg0.win w).isOut = false) (h1 : ∀ w, Pipeline.arrRef spec1 w = r → (cfg1.win w).isOut = false) :
    W3 m c (Proc.devRef .tc r) = m ((c : Thread nD τ).loc r) :=
  (Pipeline.afterRegion_keeps (Pass2.dat (W2 m) c) (W2 m c) inj1 (Pass2.A_eq (W2 m) c) r h1).trans <|
    (Pipeline.afterRegion_keeps (Pass1.dat (W1 m) c) (W1 m c) inj0 (Pass1.A_eq (W1 m) c) r h0).trans <| (V1_of m c r h).trans rfl

/-- The result's array after the run. -/
theorem W3_result (c : Dev nD) : W3 m c (Proc.devRef .tc main_v43) = (Pass2.dat (W2 m) c).arrAt 5 cfg1.N :=
  Pipeline.afterRegion_arr (Pass2.dat (W2 m) c) (W2 m c) inj1 5

/-- The arrays between the kernels. -/
theorem W2_xcat (c : Dev nD) : W2 m c (Proc.devRef .tc main_v42_0) = (Pass1.dat (W1 m) c).arrAt 8 cfg0.N :=
  Pipeline.afterRegion_arr (Pass1.dat (W1 m) c) (W1 m c) inj0 8
theorem W2_adj (c : Dev nD) : W2 m c (Proc.devRef .tc main_v42_1) = (Pass1.dat (W1 m) c).arrAt 9 cfg0.N :=
  Pipeline.afterRegion_arr (Pass1.dat (W1 m) c) (W1 m c) inj0 9

/-- An array that the first kernel does not write is as the host left it when the second is called. -/
theorem W2_of (c : Dev nD) (r : Ref sig .tc) (h0 : ∀ w, Pipeline.arrRef spec0 w = r → (cfg0.win w).isOut = false) :
    W2 m c (Proc.devRef .tc r) = V1 m c (Proc.devRef .tc r) :=
  Pipeline.afterRegion_keeps (Pass1.dat (W1 m) c) (W1 m c) inj0 (Pass1.A_eq (W1 m) c) r h0

theorem mem_uc (r : Ref sig .tc) (h : ¬ (Proc.devRef (τ := τ) .tc r).isScoped = true) : Proc.devRef .tc r ∈ Pipeline.ucRefs τ sig :=
  Finset.mem_filter.mpr ⟨StableHlo.devRef_mem_tcRefs r, h⟩

/-- An argument's array at the end. -/
theorem arg_kept {s : MemSt nD τ sig (Elt F)} {c : Dev nD} (h : ∀ b ∈ Pipeline.ucRefs τ sig, s.mem (c, b) = W3 m c b) (r : Ref sig .tc)
    (hs : ¬ (Proc.devRef (τ := τ) .tc r).isScoped = true) (hw : r ∉ hostOps0_W)
    (h0 : ∀ w, Pipeline.arrRef spec0 w = r → (cfg0.win w).isOut = false) (h1 : ∀ w, Pipeline.arrRef spec1 w = r → (cfg1.win w).isOut = false) :
    s.mem ((c : Thread nD τ).loc r) = m ((c : Thread nD τ).loc r) :=
  (h _ (mem_uc r hs)).trans (W3_keeps m c r hw h0 h1)

/-- Every execution ends with each argument as it was and every semaphore at zero, and leaves in the result's array what
    the second kernel's blocks make of it. -/
theorem frame (ρ : Dev nD → PrngReg) :
    θ_run defs (onTc (τ := τ) (main (F := F))) ⟨m, fun _ => 0, ρ⟩ (fun r => (∀ c : Dev nD,
      (r.2.mem ((c.tc : Thread nD τ).loc main_v43) = W3 m c (Proc.devRef .tc main_v43))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) := by
  refine θ_run_mono (run m ρ) fun r h => ⟨fun c => ?_, h.2⟩
  have k := fun q a b d e => arg_kept m (h.1 c) q a b d e
  refine ⟨h.1 c _ (mem_uc main_v43 (by decide)), ?_⟩
  refine ⟨k main_arg0 ?_ ?_ ?_ ?_, k main_arg1 ?_ ?_ ?_ ?_, k main_arg2 ?_ ?_ ?_ ?_, k main_arg3 ?_ ?_ ?_ ?_, k main_arg4 ?_ ?_ ?_ ?_,
    k main_arg5 ?_ ?_ ?_ ?_, k main_arg6 ?_ ?_ ?_ ?_, k main_arg7 ?_ ?_ ?_ ?_, k main_arg8 ?_ ?_ ?_ ?_, k main_arg9 ?_ ?_ ?_ ?_,
    k main_arg10 ?_ ?_ ?_ ?_, k main_arg11 ?_ ?_ ?_ ?_, k main_arg12 ?_ ?_ ?_ ?_, k main_arg13 ?_ ?_ ?_ ?_, k main_arg14 ?_ ?_ ?_ ?_⟩ <;> decide

end Cert.KernelIdeal.RunAll

end
-- ==== Proof.Frames.lean ====
module

public import proofs.«01_k».proof.Defs
public import proofs.«01_k».proof.Proof.Kernel.RunAll
public import proofs.«01_k».proof.Proof.KernelIdeal.RunAll
public import proofs.«01_k».proof.Proof.Gen.ReferenceIdeal.Run
public import Idealize.ShloMosaic.Lib.Quiescent

@[expose] public section

/-! # The frames of the three programs, and the named constant

Each program ends without fault, leaves its arguments as they were and every semaphore at zero. The ideal kernel is the
kernel with one constant named. -/

noncomputable section

namespace Cert.Frames

open Idealize.ShloMosaic Idealize.ShloMosaic.TcCoe Idealize.SL.Sem

theorem kernel : Cert.quiescent_Kernel := fun m ρ _ =>
  (θ_run Cert.Kernel.defs _ _).mono (fun _ h => ⟨fun c => (h.1 c).2, h.2⟩) (Cert.Kernel.RunAll.frame (F := Bits) m ρ)

theorem kernelIdeal : Cert.quiescent_KernelIdeal := fun m ρ _ =>
  (θ_run Cert.KernelIdeal.defs _ _).mono (fun _ h => ⟨fun c => (h.1 c).2, h.2⟩) (Cert.KernelIdeal.RunAll.frame (F := Ideal) m ρ)

theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The scale of the intent scores, named `1 / (ln 2 · √32)`. -/
theorem preserves : Cert.preserves_Kernel_KernelIdeal :=
  IdealRules.named_const.statement Cert.KernelIdeal.κ "qscale" .f32 0x3E8293EE#32 (((Real.log 2)⁻¹ * (Real.sqrt 32)⁻¹ : ℝ) : EReal) rfl

end Cert.Frames

end
-- ==== Proof.Value.Math.lean ====
/- The mathematics of one attention layer over the reals, and the two ways the programs compute it: the kernel by products
   of exponentials without a maximum, the reference by a masked softmax. -/
module

public import Idealize.ShloMosaic.PureOps.Ideal
public import Idealize.ShloMosaic.Lib.Routing.OpsOrder

@[expose] public section

noncomputable section

open scoped Classical

namespace Cert.Gat

open Idealize.ShloMosaic

/-- The slope of the leaky unit: the value of the binary word the programs hold. -/
def slope : ℝ := 13421773 / 67108864

theorem slope_pos : 0 < slope := by norm_num [slope]
theorem slope_lt : slope < 1 := by norm_num [slope]

/-- One over the number of nodes. -/
def share : ℝ := 1 / 4096

theorem coe_sum {n : ℕ} (f : Fin n → ℝ) : ((∑ k, f k : ℝ) : EReal) = ∑ k, (f k : EReal) := by
  have : ∀ s : Finset (Fin n), ((∑ k ∈ s, f k : ℝ) : EReal) = ∑ k ∈ s, (f k : EReal) := by
    intro s
    induction s using Finset.induction_on with
    | empty => simp
    | insert a s ha ih => rw [Finset.sum_insert ha, Finset.sum_insert ha, EReal.coe_add, ih]
  exact this _

theorem coe_max (x y : ℝ) : ((max x y : ℝ) : EReal) = max (x : EReal) (y : EReal) :=
  EReal.coe_strictMono.monotone.map_max

theorem coe_min (x y : ℝ) : ((min x y : ℝ) : EReal) = min (x : EReal) (y : EReal) :=
  EReal.coe_strictMono.monotone.map_min

/-! ### Values that are real numbers -/

/-- A value that is a real number. -/
def Num (x : EReal) : Prop := ∃ r : ℝ, x = (r : EReal)

theorem Num.coe (r : ℝ) : Num (r : EReal) := ⟨r, rfl⟩

theorem Num.add {x y : EReal} (hx : Num x) (hy : Num y) : Num (x + y) := by
  obtain ⟨a, rfl⟩ := hx; obtain ⟨b, rfl⟩ := hy; exact ⟨a + b, (EReal.coe_add a b).symm⟩

theorem Num.mul {x y : EReal} (hx : Num x) (hy : Num y) : Num (x * y) := by
  obtain ⟨a, rfl⟩ := hx; obtain ⟨b, rfl⟩ := hy; exact ⟨a * b, (EReal.coe_mul a b).symm⟩

theorem Num.sum {n : ℕ} {f : Fin n → EReal} (h : ∀ k, Num (f k)) : Num (∑ k, f k) := by
  choose g hg using h
  exact ⟨∑ k, g k, by rw [coe_sum]; exact Finset.sum_congr rfl fun k _ => hg k⟩

/-- A sum of products of real numbers is one. -/
theorem Num.dot {n : ℕ} {f g : Fin n → EReal} (hf : ∀ k, Num (f k)) (hg : ∀ k, Num (g k)) : Num (∑ k, f k * g k) :=
  Num.sum fun k => (hf k).mul (hg k)

/-! ### The row of a layer -/

/-- The leaky unit. -/
def leakyR (x : ℝ) : ℝ := if 0 ≤ x then x else slope * x

/-- The weight of an entry before it is normalized: the exponential of its logit where there is an edge. -/
def weight {n : ℕ} (e : Fin n → Prop) (s : Fin n → ℝ) (k : Fin n) : ℝ := if e k then Real.exp (s k) else 0

/-- One entry of a layer's output: the mean of the features under the softmax of the logits over the edges, the plain
    mean where a row has no edge. -/
def rowR {n : ℕ} (e : Fin n → Prop) (s w : Fin n → ℝ) : ℝ :=
  if ∃ k, e k then (∑ k, weight e s k * w k) / ∑ k, weight e s k else (∑ k, w k) * share

theorem weight_nonneg {n : ℕ} (e : Fin n → Prop) (s : Fin n → ℝ) (k : Fin n) : 0 ≤ weight e s k := by
  unfold weight; split
  · exact (Real.exp_pos _).le
  · exact le_rfl

theorem weights_pos {n : ℕ} {e : Fin n → Prop} (s : Fin n → ℝ) (h : ∃ k, e k) : 0 < ∑ k, weight e s k := by
  obtain ⟨k, hk⟩ := h
  refine Finset.sum_pos' (fun j _ => weight_nonneg e s j) ⟨k, Finset.mem_univ _, ?_⟩
  rw [weight, if_pos hk]; exact Real.exp_pos _

theorem weights_zero {n : ℕ} {e : Fin n → Prop} (s : Fin n → ℝ) (h : ¬ ∃ k, e k) : ∑ k, weight e s k = 0 :=
  Finset.sum_eq_zero fun k _ => by rw [weight, if_neg fun hk => h ⟨k, hk⟩]

/-! ### The kernel's row -/

/-- The greater of the two exponentials is the exponential of the leaky unit. -/
theorem max_exp (x y : ℝ) :
    max (Real.exp x * Real.exp y) (Real.exp (slope * x) * Real.exp (slope * y)) = Real.exp (leakyR (x + y)) := by
  rw [← Real.exp_add, ← Real.exp_add, ← mul_add, leakyR]
  split
  · next h =>
    refine max_eq_left (Real.exp_le_exp.2 ?_)
    have := mul_le_mul_of_nonneg_right slope_lt.le h
    linarith
  · next h =>
    refine max_eq_right (Real.exp_le_exp.2 ?_)
    have := mul_le_mul_of_nonpos_right slope_lt.le (not_le.1 h).le
    linarith

/-- The kernel's weight of an entry. -/
def kweight (f g t a : EReal) : EReal :=
  max (Ideal.exp f * Ideal.exp g) (Ideal.exp (slope * f) * Ideal.exp (slope * g)) * Ideal.exp t * a

theorem kweight_eq (f g t : ℝ) (a : EReal) (ha : a = 0 ∨ a = 1) :
    kweight f g t a = ((if 0 < a then Real.exp (leakyR (f + g) + t) else 0 : ℝ) : EReal) := by
  rw [kweight, ← EReal.coe_mul, ← EReal.coe_mul, Ideal.exp_coe, Ideal.exp_coe, Ideal.exp_coe, Ideal.exp_coe,
    Ideal.exp_coe, ← EReal.coe_mul, ← EReal.coe_mul, ← coe_max, max_exp, ← EReal.coe_mul, ← Real.exp_add]
  rcases ha with rfl | rfl
  · simp
  · simp

/-- How the kernel ends a row: the mean by the column of sums where the normalizer is zero, else the product with the
    normalizer's reciprocal. -/
def finish (l s acc : EReal) : EReal :=
  if l = 0 then s * (share : EReal) else acc * Ideal.div 1 (if l = 0 then 1 else l)

theorem kernel_row {n : ℕ} (a : Fin n → EReal) (ha : ∀ k, a k = 0 ∨ a k = 1) (f : ℝ) (g t w : Fin n → ℝ) :
    finish (∑ k, kweight f (g k) (t k) (a k)) (∑ k, (w k : EReal)) (∑ k, kweight f (g k) (t k) (a k) * (w k : EReal))
      = ((rowR (fun k => 0 < a k) (fun k => leakyR (f + g k) + t k) w : ℝ) : EReal) := by
  have hp : ∀ k, kweight f (g k) (t k) (a k) = ((weight (fun k => 0 < a k) (fun k => leakyR (f + g k) + t k) k : ℝ) : EReal) :=
    fun k => by rw [kweight_eq _ _ _ _ (ha k), weight]; congr
  simp only [hp, ← EReal.coe_mul, ← coe_sum]
  generalize hs : (fun k => leakyR (f + g k) + t k) = s
  unfold finish rowR
  by_cases h : ∃ k, 0 < a k
  · have hz := weights_pos s h
    have hne : ((∑ k, weight (fun k => 0 < a k) s k : ℝ) : EReal) ≠ 0 := by
      rw [← EReal.coe_zero]; exact fun hh => hz.ne' (EReal.coe_injective hh)
    rw [if_neg hne, if_neg hne, if_pos h, Ideal.div_coe hz.ne', one_mul, ← EReal.coe_mul]
    congr 1
    ring
  · rw [weights_zero s h, if_pos EReal.coe_zero, if_neg h, ← EReal.coe_mul]

/-! ### The reference's row -/

/-- A logit behind the mask. -/
def masked {n : ℕ} (a s : Fin n → EReal) (k : Fin n) : EReal := if 0 < a k then s k else ⊥

/-- The greatest logit of a row, as the softmax takes it. -/
def top {n : ℕ} (e : Fin n → EReal) : EReal := max ⊥ (Finset.fold max ⊥ (fun k => e k) Finset.univ)

/-- The reference's attention weight. -/
def rweight {n : ℕ} (a e : Fin n → EReal) (k : Fin n) : EReal :=
  Scalar.select (Finset.fold IntOp.ori (0#1) (fun x => BitVec.ofBool (decide (0 < a x))) Finset.univ)
    (Ideal.div (Ideal.exp (e k - top e)) (∑ x, Ideal.exp (e x - top e))) (share : EReal)

theorem any_iff {n : ℕ} (a : Fin n → EReal) :
    Finset.fold IntOp.ori (0#1) (fun x => BitVec.ofBool (decide (0 < a x))) Finset.univ = 1#1 ↔ ∃ k, 0 < a k := by
  rw [Routing.fold_ori]
  constructor
  · rintro ⟨k, -, hk⟩
    refine ⟨k, ?_⟩
    by_contra h
    rw [decide_eq_false h] at hk
    exact absurd hk (by decide)
  · rintro ⟨k, hk⟩
    exact ⟨k, Finset.mem_univ _, by rw [decide_eq_true hk]; rfl⟩

theorem top_num {n : ℕ} (a : Fin n → EReal) (s : Fin n → ℝ) (h : ∃ k, 0 < a k) :
    Num (top (masked a fun k => (s k : EReal))) := by
  have hlt : top (masked a fun k => (s k : EReal)) < ⊤ := by
    refine max_lt bot_lt_top ((Finset.fold_max_lt _).2 ⟨bot_lt_top, fun k _ => ?_⟩)
    unfold masked; split
    · exact EReal.coe_lt_top _
    · exact bot_lt_top
  have hgt : ⊥ < top (masked a fun k => (s k : EReal)) := by
    obtain ⟨k, hk⟩ := h
    refine lt_max_of_lt_right ((Finset.lt_fold_max _).2 (Or.inr ⟨k, Finset.mem_univ _, ?_⟩))
    rw [masked, if_pos hk]; exact EReal.bot_lt_coe _
  exact ⟨_, (EReal.coe_toReal hlt.ne hgt.ne').symm⟩

theorem ref_row {n : ℕ} (a : Fin n → EReal) (s w : Fin n → ℝ) :
    ∑ k, rweight a (masked a fun k => (s k : EReal)) k * (w k : EReal)
      = ((rowR (fun k => 0 < a k) s w : ℝ) : EReal) := by
  unfold rowR
  by_cases h : ∃ k, 0 < a k
  · obtain ⟨m, hm⟩ := top_num a s h
    have hp : ∀ k, Ideal.exp (masked a (fun k => (s k : EReal)) k - top (masked a fun k => (s k : EReal)))
        = ((weight (fun k => 0 < a k) s k * Real.exp (-m) : ℝ) : EReal) := by
      intro k
      rw [hm, masked, weight]
      split
      · rw [← EReal.coe_sub, Ideal.exp_coe, sub_eq_add_neg, Real.exp_add]
      · rw [zero_mul, EReal.bot_sub, Ideal.exp_bot, EReal.coe_zero]
    have hz := weights_pos s h
    have hz' : (∑ k, weight (fun k => 0 < a k) s k * Real.exp (-m)) ≠ 0 := by
      rw [← Finset.sum_mul]; exact mul_ne_zero hz.ne' (Real.exp_pos _).ne'
    have hr : ∀ k, rweight a (masked a fun k => (s k : EReal)) k
        = ((weight (fun k => 0 < a k) s k / ∑ k, weight (fun k => 0 < a k) s k : ℝ) : EReal) := by
      intro k
      unfold rweight
      simp only [(any_iff a).2 h, hp]
      rw [← coe_sum, Ideal.div_coe hz', ← EReal.coe_mul]
      show Scalar.select 1#1 _ _ = _
      rw [show ∀ x y : EReal, Scalar.select 1#1 x y = x from fun _ _ => rfl]
      congr 1
      rw [← Finset.sum_mul]
      have := (Real.exp_pos (-m)).ne'
      field_simp
    simp only [hr, ← EReal.coe_mul]
    rw [← coe_sum, if_pos h]
    congr 1
    rw [Finset.sum_div]
    exact Finset.sum_congr rfl fun k _ => by ring
  · have h0 : Finset.fold IntOp.ori (0#1) (fun x => BitVec.ofBool (decide (0 < a x))) Finset.univ = 0#1 := by
      rcases BitVec.eq_zero_or_eq_one (Finset.fold IntOp.ori (0#1) (fun x => BitVec.ofBool (decide (0 < a x))) Finset.univ) with e | e
      · exact e
      · exact absurd ((any_iff a).1 e) h
    have hr : ∀ k, rweight a (masked a fun k => (s k : EReal)) k = (share : EReal) := by
      intro k
      unfold rweight
      rw [h0]
      rfl
    simp only [hr, ← EReal.coe_mul]
    rw [← coe_sum, if_neg h]
    congr 1
    rw [Finset.sum_mul]
    exact Finset.sum_congr rfl fun k _ => mul_comm _ _

/-! ### The units -/

/-- The leaky unit over the extended reals. -/
def leaky (x : EReal) : EReal := if 0 ≤ x then x else (slope : EReal) * x

theorem leaky_coe (x : ℝ) : leaky x = ((leakyR x : ℝ) : EReal) := by
  unfold leaky leakyR
  by_cases h : 0 ≤ x
  · rw [if_pos h, if_pos (EReal.coe_nonneg.2 h)]
  · rw [if_neg h, if_neg fun hh => h (EReal.coe_nonneg.1 hh), EReal.coe_mul]

/-- The exponential linear unit, as the kernel takes it. -/
def elu (x : EReal) : EReal := if 0 < x then x else Ideal.exp (min x 0) - 1

theorem elu_ref (x : EReal) : (if 0 < x then x else Ideal.exp (if 0 < x then 0 else x) - 1) = elu x := by
  unfold elu
  by_cases h : 0 < x
  · rw [if_pos h, if_pos h]
  · rw [if_neg h, if_neg h, if_neg h, min_eq_left (not_lt.1 h)]

theorem Num.elu {x : EReal} (h : Num x) : Num (elu x) := by
  obtain ⟨r, rfl⟩ := h
  unfold Gat.elu
  split
  · exact ⟨r, rfl⟩
  · refine ⟨Real.exp (min r 0) - 1, ?_⟩
    rw [← EReal.coe_zero, ← coe_min, Ideal.exp_coe, EReal.coe_sub, EReal.coe_one]

/-- The intent head's exponential: the kernel scales one factor and takes the power of two. -/
theorem exp2_scaled {n : ℕ} (q k : Fin n → ℝ) :
    Ideal.exp2 (∑ d, ((q d : EReal) * (((Real.log 2)⁻¹ * (Real.sqrt 32)⁻¹ : ℝ) : EReal)) * (k d : EReal))
      = Ideal.exp (((∑ d, q d * k d) / Real.sqrt 32 : ℝ) : EReal) := by
  simp only [← EReal.coe_mul]
  rw [← coe_sum, Ideal.exp2_coe, Ideal.exp_coe]
  congr 1
  show (2 : ℝ) ^ (_ : ℝ) = _
  rw [Real.rpow_def_of_pos (by norm_num : (0 : ℝ) < 2)]
  congr 1
  have hl : Real.log 2 ≠ 0 := (Real.log_pos (by norm_num)).ne'
  rw [Finset.mul_sum, Finset.sum_div]
  refine Finset.sum_congr rfl fun d _ => ?_
  field_simp

/-! ### One entry of a layer, over the extended reals -/

/-- One entry of a layer's output, from the row's edges, its logit, the columns' logits, the added logits and a column of
    the features, all of them real numbers. -/
def cell {n : ℕ} (a : Fin n → EReal) (f : EReal) (g t w : Fin n → EReal) : EReal :=
  ((rowR (fun k => 0 < a k) (fun k => leakyR (f.toReal + (g k).toReal) + (t k).toReal) (fun k => (w k).toReal) : ℝ) : EReal)

theorem Num.cell {n : ℕ} (a : Fin n → EReal) (f : EReal) (g t w : Fin n → EReal) : Num (cell a f g t w) := ⟨_, rfl⟩

theorem kernel_cell {n : ℕ} {a : Fin n → EReal} {f : EReal} {g t w : Fin n → EReal} (ha : ∀ k, a k = 0 ∨ a k = 1)
    (hf : Num f) (hg : ∀ k, Num (g k)) (ht : ∀ k, Num (t k)) (hw : ∀ k, Num (w k)) :
    finish (∑ k, kweight f (g k) (t k) (a k)) (∑ k, w k) (∑ k, kweight f (g k) (t k) (a k) * w k) = cell a f g t w := by
  obtain ⟨f', rfl⟩ := hf
  choose g' hg using hg
  choose t' ht using ht
  choose w' hw using hw
  obtain rfl : g = fun k => (g' k : EReal) := funext hg
  obtain rfl : t = fun k => (t' k : EReal) := funext ht
  obtain rfl : w = fun k => (w' k : EReal) := funext hw
  rw [kernel_row a ha]
  rfl

theorem ref_cell {n : ℕ} {a : Fin n → EReal} {f : EReal} {g t w : Fin n → EReal}
    (hf : Num f) (hg : ∀ k, Num (g k)) (ht : ∀ k, Num (t k)) (hw : ∀ k, Num (w k)) :
    ∑ k, rweight a (masked a fun k => leaky (f + g k) + t k) k * w k = cell a f g t w := by
  obtain ⟨f', rfl⟩ := hf
  choose g' hg using hg
  choose t' ht using ht
  choose w' hw using hw
  obtain rfl : g = fun k => (g' k : EReal) := funext hg
  obtain rfl : t = fun k => (t' k : EReal) := funext ht
  obtain rfl : w = fun k => (w' k : EReal) := funext hw
  simp only [← EReal.coe_add, leaky_coe]
  rw [ref_row a]
  rfl

/-- The weight without an added logit. -/
theorem kweight_zero (f g a : EReal) :
    kweight f g 0 a = max (Ideal.exp f * Ideal.exp g) (Ideal.exp (slope * f) * Ideal.exp (slope * g)) * a := by
  rw [kweight, ← EReal.coe_zero, Ideal.exp_coe, Real.exp_zero, EReal.coe_one, mul_one]

/-- A quotient of real numbers, the divisor not zero, is a real number. -/
theorem Num.div {x : EReal} {y : ℝ} (hx : Num x) (hy : y ≠ 0) : Num (Ideal.div x (y : EReal)) := by
  rw [Ideal.div_coe hy]; exact hx.mul (Num.coe _)

/-! ### Four heads side by side -/

/-- The column `c` of four heads of 64 columns side by side. -/
def pick (f : Fin 4 → Fin 64 → EReal) (c : Fin 256) : EReal := f ⟨c.val / 64, by omega⟩ ⟨c.val % 64, by omega⟩

theorem pick_eq (f : Fin 4 → Fin 64 → EReal) (c : Fin 256) :
    pick f c = if h : c.val < 64 then f 0 ⟨c.val, h⟩ else if h : c.val - 64 < 64 then f 1 ⟨c.val - 64, h⟩
      else if h : c.val - 64 - 64 < 64 then f 2 ⟨c.val - 64 - 64, h⟩ else f 3 ⟨c.val - 64 - 64 - 64, by omega⟩ := by
  have key : ∀ (h : Fin 4) (d : Fin 64), c.val = 64 * h.val + d.val → pick f c = f h d := by
    intro h d e
    unfold pick
    refine congrArg₂ f (Fin.ext ?_) (Fin.ext ?_) <;> simp only <;> omega
  split_ifs with h1 h2 h3
  · exact key 0 _ (by simp)
  · exact key 1 _ (by simp only [Fin.val_one]; omega)
  · exact key 2 _ (by simp only [Fin.val_two]; omega)
  · exact key 3 _ (by show c.val = 64 * 3 + _; simp only; omega)

theorem pick_at (f : Fin 4 → Fin 64 → EReal) (c : Fin 256) (h : Fin 4) (d : Fin 64) (e : c.val = 64 * h.val + d.val) :
    pick f c = f h d := by
  unfold pick
  refine congrArg₂ f (Fin.ext ?_) (Fin.ext ?_) <;> simp only <;> omega

/-- A sum over the columns of the four heads, head after head. -/
theorem sum_heads (f : Fin 256 → EReal) : ∑ c, f c = ∑ h : Fin 4, ∑ d : Fin 64, f ⟨64 * h.val + d.val, by omega⟩ := by
  rw [← Fintype.sum_prod_type' (f := fun (h : Fin 4) (d : Fin 64) => f ⟨64 * h.val + d.val, by omega⟩)]
  refine (Fintype.sum_equiv (finProdFinEquiv (m := 4) (n := 64)) _ _ fun p => ?_).symm
  refine congrArg f (Fin.ext ?_)
  simp only [finProdFinEquiv_apply_val]
  omega

/-- Of a sum over the heads in which every head but one is multiplied by zero, that head is left. -/
theorem sum_head (f : Fin 4 → Fin 64 → EReal) (h : Fin 4) (e : Fin 4 → EReal) (he : ∀ g, e g = if g = h then 1 else 0) :
    ∑ g : Fin 4, ∑ d : Fin 64, f g d * e g = ∑ d : Fin 64, f h d := by
  rw [Finset.sum_eq_single h]
  · exact Finset.sum_congr rfl fun d _ => by rw [he, if_pos rfl, mul_one]
  · intro g _ hg
    exact Finset.sum_eq_zero fun d _ => by rw [he, if_neg hg, mul_zero]
  · intro hh
    exact absurd (Finset.mem_univ h) hh

end Cert.Gat

end
-- ==== Proof.Value.Consts.lean ====
/- The constants of the programs, as the numbers their binary words denote. -/
module

public import Idealize.ShloMosaic.PureOps.Ideal

@[expose] public section

noncomputable section

namespace Cert.Consts

open Idealize.ShloMosaic

/-- The leaky unit's slope. -/
theorem ofBits_slope : Ideal.ofBits .f32 0x3E4CCCCD#32 = ((13421773 / 67108864 : ℝ) : EReal) := by
  simp [Ideal.ofBits, Ideal.ieee, -EReal.coe_mul]; norm_num

/-- One over the number of nodes. -/
theorem ofBits_share : Ideal.ofBits .f32 0x39800000#32 = ((1 / 4096 : ℝ) : EReal) := by
  simp [Ideal.ofBits, Ideal.ieee, -EReal.coe_mul]; norm_num

/-- The intent features' dimension. -/
theorem ofBits_32 : Ideal.ofBits .f32 0x42000000#32 = ((32 : ℝ) : EReal) := by
  simp [Ideal.ofBits, Ideal.ieee, -EReal.coe_mul]; norm_num

/-- Minus infinity. -/
theorem ofBits_bot : Ideal.ofBits .f32 0xFF800000#32 = ⊥ := by
  simp [Ideal.ofBits, Ideal.ieee]

/-- Infinity. -/
theorem ofBits_top : Ideal.ofBits .f32 0x7F800000#32 = ⊤ := by
  simp [Ideal.ofBits, Ideal.ieee]

end Cert.Consts

end
-- ==== Proof.Value.Regular.lean ====
/- What the precondition says: every edge weight is 0 or 1, and every other argument holds numbers only. -/
module

public import proofs.«01_k».proof.Defs
public import proofs.«01_k».proof.Proof.Gen.Pre_regular
public import proofs.«01_k».proof.Proof.Value.Math
public import proofs.«01_k».proof.Proof.Value.Consts
public import Idealize.ShloMosaic.Lib.ReduceAll
public import Idealize.ShloMosaic.Lib.Pointwise

@[expose] public section

set_option maxRecDepth 16384

noncomputable section

namespace Cert.Regular

open Idealize.ShloMosaic Cert.Pre_regular Cert.Pre_regular.Gen

abbrev V (s : Shape) := FVec Ideal s .f32

/-- A true comparison, read back. -/
theorem bit_true {p : Prop} [Decidable p] (h : BitVec.ofBool (decide p) = 1#1) : p := by
  by_contra hp
  rw [decide_eq_false hp] at h
  exact absurd h (by decide)

theorem num_of_abs (x : EReal) (h : max x (-x) < ⊤) : Gat.Num x := by
  induction x with
  | bot => exact absurd h (by simp)
  | top => exact absurd h (by simp)
  | coe r => exact ⟨r, rfl⟩

/-- An array whose magnitudes are all below infinity holds numbers. -/
theorem numbers {s : Shape} {axes : List (Fin s.rank)} (x : V s) (b : S_.BroadcastsInDim s ![]) (r : s.ReducesTo axes S_) (h : 0 < S_.numel) (v : IVec S_ 1)
    (e : Host.reduce IntOp.andi (cmpf .olt (Host.absf x) (broadcastInDim s ![] b (constant S_ .f32 0x7F800000#32))) v r h ix0 = 1#1) (i : s.Idx) : Gat.Num (x i) := by
  have k := Host.reduce_andi_all _ v r h ix0 e i
  have k' : Ideal.cmp .olt (max (x i) (-(x i))) (Ideal.ofBits .f32 0x7F800000#32) = 1#1 := k
  rw [Consts.ofBits_top] at k'
  exact num_of_abs _ (bit_true k')

/-- An array of zeros and ones. -/
theorem bits {s : Shape} {axes : List (Fin s.rank)} (x : V s) (b b' : S_.BroadcastsInDim s ![]) (r : s.ReducesTo axes S_) (h : 0 < S_.numel) (v : IVec S_ 1)
    (e : Host.reduce IntOp.andi (ori (cmpf .oeq x (broadcastInDim s ![] b (constant S_ .f32 0x00000000#32))) (cmpf .oeq x (broadcastInDim s ![] b' (constant S_ .f32 0x3F800000#32)))) v r h ix0 = 1#1) (i : s.Idx) :
    x i = 0 ∨ x i = 1 := by
  have k := Host.reduce_andi_all _ v r h ix0 e i
  have k' : IntOp.ori (Ideal.cmp .oeq (x i) (Ideal.ofBits .f32 0x00000000#32)) (Ideal.cmp .oeq (x i) (Ideal.ofBits .f32 0x3F800000#32)) = 1#1 := k
  rw [Ideal.ofBits_zero_f32, Ideal.ofBits_one_f32] at k'
  exact (IntOp.ori_eq_one.1 k').imp bit_true bit_true

theorem both {a b : IVec S_ 1} (h : andi a b ix0 = 1#1) : a ix0 = 1#1 ∧ b ix0 = 1#1 := IntOp.andi_eq_one.1 h

/-- What the claims assume of the arguments. -/
structure Holds (a0 : V S4096x128) (a1 : V S4096x4096) (a2 : V S4096x32) (a3 : V S128x64) (a4 : V S128) (a5 : V S128x64) (a6 : V S128)
    (a7 : V S128x64) (a8 : V S128) (a9 : V S128x64) (a10 : V S128) (a11 a12 : V S32x32) (a13 : V S256x128) (a14 : V S256) : Prop where
  adj : ∀ i, a1 i = 0 ∨ a1 i = 1
  n0 : ∀ i, Gat.Num (a0 i)
  n2 : ∀ i, Gat.Num (a2 i)
  n3 : ∀ i, Gat.Num (a3 i)
  n4 : ∀ i, Gat.Num (a4 i)
  n5 : ∀ i, Gat.Num (a5 i)
  n6 : ∀ i, Gat.Num (a6 i)
  n7 : ∀ i, Gat.Num (a7 i)
  n8 : ∀ i, Gat.Num (a8 i)
  n9 : ∀ i, Gat.Num (a9 i)
  n10 : ∀ i, Gat.Num (a10 i)
  n11 : ∀ i, Gat.Num (a11 i)
  n12 : ∀ i, Gat.Num (a12 i)
  n13 : ∀ i, Gat.Num (a13 i)
  n14 : ∀ i, Gat.Num (a14 i)

theorem holds {a0 : V S4096x128} {a1 : V S4096x4096} {a2 : V S4096x32} {a3 : V S128x64} {a4 : V S128} {a5 : V S128x64} {a6 : V S128}
    {a7 : V S128x64} {a8 : V S128} {a9 : V S128x64} {a10 : V S128} {a11 a12 : V S32x32} {a13 : V S256x128} {a14 : V S256}
    (h : Pre_regular.fn (F := Ideal) a0 a1 a2 a3 a4 a5 a6 a7 a8 a9 a10 a11 a12 a13 a14 = fun _ => 1#1) :
    Holds a0 a1 a2 a3 a4 a5 a6 a7 a8 a9 a10 a11 a12 a13 a14 := by
  have k := congrFun h ix0
  dsimp only [fn, fn_part1, fn_part2, fn_part3, fn_part4] at k
  obtain ⟨k, h14⟩ := both k
  obtain ⟨k, h13⟩ := both k
  obtain ⟨k, h12⟩ := both k
  obtain ⟨k, h11⟩ := both k
  obtain ⟨k, h10⟩ := both k
  obtain ⟨k, h9⟩ := both k
  obtain ⟨k, h8⟩ := both k
  obtain ⟨k, h7⟩ := both k
  obtain ⟨k, h6⟩ := both k
  obtain ⟨k, h5⟩ := both k
  obtain ⟨k, h4⟩ := both k
  obtain ⟨k, h3⟩ := both k
  obtain ⟨k, h2⟩ := both k
  obtain ⟨h1, h0⟩ := both k
  exact ⟨bits _ _ _ _ _ _ h1, numbers _ _ _ _ _ h0, numbers _ _ _ _ _ h2, numbers _ _ _ _ _ h3, numbers _ _ _ _ _ h4, numbers _ _ _ _ _ h5,
    numbers _ _ _ _ _ h6, numbers _ _ _ _ _ h7, numbers _ _ _ _ _ h8, numbers _ _ _ _ _ h9, numbers _ _ _ _ _ h10, numbers _ _ _ _ _ h11,
    numbers _ _ _ _ _ h12, numbers _ _ _ _ _ h13, numbers _ _ _ _ _ h14⟩

end Cert.Regular

end
-- ==== Proof.Value.Model.lean ====
/- The network as a formula in the arguments: where the two programs meet. -/
module

public import proofs.«01_k».proof.Proof.Value.Math
public import Idealize.ShloMosaic.Lib.Pointwise

@[expose] public section

noncomputable section

namespace Cert.Model

open Idealize.ShloMosaic

abbrev V (s : Shape) := FVec Ideal s .f32

/-- The arguments: the nodes' features, the edges, the nodes' intents, the four heads' weights and attention vectors,
    the intent head's two projections, the second layer's weights and attention vector. -/
structure Args where
  x : V ⟨2, ![4096, 128]⟩
  adj : V ⟨2, ![4096, 4096]⟩
  e : V ⟨2, ![4096, 32]⟩
  w : Fin 4 → V ⟨2, ![128, 64]⟩
  a : Fin 4 → V ⟨1, ![128]⟩
  q : V ⟨2, ![32, 32]⟩
  k : V ⟨2, ![32, 32]⟩
  wo : V ⟨2, ![256, 128]⟩
  ao : V ⟨1, ![256]⟩

/-- Edges are zeros and ones, and every other argument holds numbers. -/
structure Args.Good (A : Args) : Prop where
  adj : ∀ i, A.adj i = 0 ∨ A.adj i = 1
  x : ∀ i, Gat.Num (A.x i)
  e : ∀ i, Gat.Num (A.e i)
  w : ∀ h i, Gat.Num (A.w h i)
  a : ∀ h i, Gat.Num (A.a h i)
  q : ∀ i, Gat.Num (A.q i)
  k : ∀ i, Gat.Num (A.k i)
  wo : ∀ i, Gat.Num (A.wo i)
  ao : ∀ i, Gat.Num (A.ao i)

variable (A : Args)

/-- A head's features. -/
def feat (h : Fin 4) (i : Fin 4096) (d : Fin 64) : EReal := ∑ k : Fin 128, A.x (ix2 i k) * A.w h (ix2 k d)
/-- A node's logit as the row of an edge. -/
def rowLogit (h : Fin 4) (i : Fin 4096) : EReal := ∑ d : Fin 64, feat A h i d * A.a h (ix1 ⟨d.val, by omega⟩)
/-- A node's logit as the column of an edge. -/
def colLogit (h : Fin 4) (i : Fin 4096) : EReal := ∑ d : Fin 64, feat A h i d * A.a h (ix1 ⟨64 + d.val, by omega⟩)
/-- The two intent projections. -/
def query (i : Fin 4096) (d : Fin 32) : EReal := ∑ c : Fin 32, A.e (ix2 i c) * A.q (ix2 c d)
def key (i : Fin 4096) (d : Fin 32) : EReal := ∑ c : Fin 32, A.e (ix2 i c) * A.k (ix2 c d)
/-- The intents' similarity. -/
def sim (i k : Fin 4096) : EReal := Ideal.div (∑ d : Fin 32, query A i d * key A k d) ((Real.sqrt 32 : ℝ) : EReal)
/-- What a head adds to its logits: the last one the similarity, the others nothing. -/
def extra (h : Fin 4) (i k : Fin 4096) : EReal := if h = 3 then sim A i k else 0
/-- A head before its unit. -/
def cell (h : Fin 4) (i : Fin 4096) (d : Fin 64) : EReal :=
  Gat.cell (fun k : Fin 4096 => A.adj (ix2 i k)) (rowLogit A h i) (colLogit A h) (extra A h i) fun k => feat A h k d
/-- The first layer: the four heads side by side. -/
def hidden (i : Fin 4096) (c : Fin 256) : EReal := Gat.pick (fun h d => Gat.elu (cell A h i d)) c
/-- The second layer's features and logits. -/
def featO (i : Fin 4096) (d : Fin 128) : EReal := ∑ c : Fin 256, hidden A i c * A.wo (ix2 c d)
def rowLogitO (i : Fin 4096) : EReal := ∑ d : Fin 128, featO A i d * A.ao (ix1 ⟨d.val, by omega⟩)
def colLogitO (i : Fin 4096) : EReal := ∑ d : Fin 128, featO A i d * A.ao (ix1 ⟨128 + d.val, by omega⟩)
/-- The result. -/
def result (i : Fin 4096) (d : Fin 128) : EReal :=
  Ideal.tanh (Gat.cell (fun k : Fin 4096 => A.adj (ix2 i k)) (rowLogitO A i) (colLogitO A) (fun _ => 0) fun k => featO A k d)

variable {A} (hA : A.Good)
include hA

theorem num_feat (h : Fin 4) (i : Fin 4096) (d : Fin 64) : Gat.Num (feat A h i d) := Gat.Num.dot (fun _ => hA.x _) fun _ => hA.w _ _
theorem num_rowLogit (h : Fin 4) (i : Fin 4096) : Gat.Num (rowLogit A h i) := Gat.Num.dot (num_feat hA h i) fun _ => hA.a _ _
theorem num_colLogit (h : Fin 4) (i : Fin 4096) : Gat.Num (colLogit A h i) := Gat.Num.dot (num_feat hA h i) fun _ => hA.a _ _
theorem num_query (i : Fin 4096) (d : Fin 32) : Gat.Num (query A i d) := Gat.Num.dot (fun _ => hA.e _) fun _ => hA.q _
theorem num_key (i : Fin 4096) (d : Fin 32) : Gat.Num (key A i d) := Gat.Num.dot (fun _ => hA.e _) fun _ => hA.k _
theorem num_sim (i k : Fin 4096) : Gat.Num (sim A i k) :=
  Gat.Num.div (Gat.Num.dot (num_query hA i) (num_key hA k)) (Real.sqrt_pos.2 (by norm_num)).ne'
theorem num_extra (h : Fin 4) (i k : Fin 4096) : Gat.Num (extra A h i k) := by
  unfold extra
  split
  · exact num_sim hA i k
  · exact ⟨0, EReal.coe_zero.symm⟩
omit hA in
theorem num_hidden (i : Fin 4096) (c : Fin 256) : Gat.Num (hidden A i c) := (Gat.Num.cell _ _ _ _ _).elu
theorem num_featO (i : Fin 4096) (d : Fin 128) : Gat.Num (featO A i d) := Gat.Num.dot (num_hidden i) fun _ => hA.wo _
theorem num_rowLogitO (i : Fin 4096) : Gat.Num (rowLogitO A i) := Gat.Num.dot (num_featO hA i) fun _ => hA.ao _
theorem num_colLogitO (i : Fin 4096) : Gat.Num (colLogitO A i) := Gat.Num.dot (num_featO hA i) fun _ => hA.ao _

end Cert.Model

end
-- ==== Proof.Value.Host.lean ====
/- What the host prepares before the first kernel, read at an index. -/
module

public import proofs.«01_k».proof.Proof.KernelIdeal.RunAll
public import proofs.«01_k».proof.Proof.Value.Math
public import Idealize.ShloMosaic.Lib.Pointwise

@[expose] public section

set_option maxRecDepth 16384

noncomputable section

namespace Cert.HostValue

open Idealize.ShloMosaic Idealize.ShloMosaic.TcCoe Cert.KernelIdeal Cert.KernelIdeal.Gen Cert.KernelIdeal.RunAll

abbrev V (s : Shape) := FVec Ideal s .f32

/-- The four weight matrices side by side. -/
def wcat (a3 a5 a7 a9 : V S128x64) : V S128x256 :=
  concatenate S128x256 1 [⟨S128x64, a3⟩, ⟨S128x64, a5⟩, ⟨S128x64, a7⟩, ⟨S128x64, a9⟩] concatenates_S128x64_S128x64_S128x64_S128x64_S128x256_d1

/-- The first halves of the four attention vectors, one above the other. -/
def firsts (a4 a6 a8 a10 : V S128) : V S4x64 :=
  concatenate S4x64 0
    [⟨S1x64, broadcastInDim S1x64 ![1] bcast_S64_S1x64_1 (extractStridedSlice S64 ![0] a4 slices_S128_S64_0)⟩,
     ⟨S1x64, broadcastInDim S1x64 ![1] bcast_S64_S1x64_1 (extractStridedSlice S64 ![0] a6 slices_S128_S64_0)⟩,
     ⟨S1x64, broadcastInDim S1x64 ![1] bcast_S64_S1x64_1 (extractStridedSlice S64 ![0] a8 slices_S128_S64_0)⟩,
     ⟨S1x64, broadcastInDim S1x64 ![1] bcast_S64_S1x64_1 (extractStridedSlice S64 ![0] a10 slices_S128_S64_0)⟩]
    concatenates_S1x64_S1x64_S1x64_S1x64_S4x64_d0

/-- Their second halves. -/
def seconds (a4 a6 a8 a10 : V S128) : V S4x64 :=
  concatenate S4x64 0
    [⟨S1x64, broadcastInDim S1x64 ![1] bcast_S64_S1x64_1 (extractStridedSlice S64 ![64] a4 slices_S128_S64_64)⟩,
     ⟨S1x64, broadcastInDim S1x64 ![1] bcast_S64_S1x64_1 (extractStridedSlice S64 ![64] a6 slices_S128_S64_64)⟩,
     ⟨S1x64, broadcastInDim S1x64 ![1] bcast_S64_S1x64_1 (extractStridedSlice S64 ![64] a8 slices_S128_S64_64)⟩,
     ⟨S1x64, broadcastInDim S1x64 ![1] bcast_S64_S1x64_1 (extractStridedSlice S64 ![64] a10 slices_S128_S64_64)⟩]
    concatenates_S1x64_S1x64_S1x64_S1x64_S4x64_d0

/-- The identity matrix. -/
def eye : V S4x4 :=
  uitofp .f32 (cmpi .eq (addi (iotaInDim S4x4 32 0) (broadcastInDim S4x4 ![] bcast_S_S4x4 (constantI S_ 32 0#32))) (iotaInDim S4x4 32 1))

/-- The first halves in four columns, each beside zeros. -/
def spreadCols (p : V S4x64) : V S256x4 :=
  shapeCast S256x4 (mulf
    (broadcastInDim S4x64x4 ![0, 1, 2] bcast_S4x64x1_S4x64x4_0_1_2 (broadcastInDim S4x64x1 ![0, 1] bcast_S4x64_S4x64x1_0_1 p))
    (broadcastInDim S4x64x4 ![0, 1, 2] bcast_S4x1x4_S4x64x4_0_1_2 (broadcastInDim S4x1x4 ![0, 2] bcast_S4x4_S4x1x4_0_2 eye)))
    shapeCasts_S4x64x4_S256x4

/-- The second halves in four rows, each beside zeros. -/
def spreadRows (p : V S4x64) : V S4x256 :=
  shapeCast S4x256 (mulf
    (broadcastInDim S4x4x64 ![0, 1, 2] bcast_S4x4x1_S4x4x64_0_1_2 (broadcastInDim S4x4x1 ![0, 1] bcast_S4x4_S4x4x1_0_1 eye))
    (broadcastInDim S4x4x64 ![0, 1, 2] bcast_S1x4x64_S4x4x64_0_1_2 (broadcastInDim S1x4x64 ![1, 2] bcast_S4x64_S1x4x64_1_2 p)))
    shapeCasts_S4x4x64_S4x256

variable (m : (ℓ : Loc nD τ sig) → Buf (Elt Ideal) ℓ) (c : Dev nD)

theorem W1_wcat : W1 m c main_v0 = wcat (m (c, main_arg3)) (m (c, main_arg5)) (m (c, main_arg7)) (m (c, main_arg9)) := by
  unfold W1 V1 hostOps0
  after_results
  rfl

theorem W1_cols : W1 m c main_v30 = spreadCols (firsts (m (c, main_arg4)) (m (c, main_arg6)) (m (c, main_arg8)) (m (c, main_arg10))) := by
  unfold W1 V1 hostOps0
  after_results
  rfl

theorem W1_rows : W1 m c main_v36 = spreadRows (seconds (m (c, main_arg4)) (m (c, main_arg6)) (m (c, main_arg8)) (m (c, main_arg10))) := by
  unfold W1 V1 hostOps0
  after_results
  rfl

theorem W1_kT : W1 m c main_v37 = (transpose S32x32 [1, 0] (m (c, main_arg12)) transposes_S32x32_S32x32_1_0 : V S32x32) := by
  unfold W1 V1 hostOps0
  after_results

theorem W1_col : W1 m c main_v39 = (shapeCast S128x1 (extractStridedSlice S128 ![0] (m (c, main_arg14)) slices_S256_S128_0) shapeCasts_S128_S128x1 : V S128x1) := by
  unfold W1 V1 hostOps0
  after_results
  rfl

theorem W1_row : W1 m c main_v41 = (shapeCast S1x128 (extractStridedSlice S128 ![128] (m (c, main_arg14)) slices_S256_S128_128) shapeCasts_S128_S1x128 : V S1x128) := by
  unfold W1 V1 hostOps0
  after_results
  rfl

/-! ### At an index -/

theorem wcat_apply (a3 a5 a7 a9 : V S128x64) (k : Fin 128) (c : Fin 256) :
    wcat a3 a5 a7 a9 (ix2 k c) = Gat.pick (fun h d => (![a3, a5, a7, a9] h) (ix2 k d)) c := by
  rw [Gat.pick_eq]
  pointwise [wcat]

theorem firsts_apply (a4 a6 a8 a10 : V S128) (h : Fin 4) (d : Fin 64) :
    firsts a4 a6 a8 a10 (ix2 h d) = (![a4, a6, a8, a10] h) (ix1 ⟨d.val, by omega⟩) := by
  fin_cases h <;> pointwise [firsts]

theorem seconds_apply (a4 a6 a8 a10 : V S128) (h : Fin 4) (d : Fin 64) :
    seconds a4 a6 a8 a10 (ix2 h d) = (![a4, a6, a8, a10] h) (ix1 ⟨64 + d.val, by omega⟩) := by
  fin_cases h <;> pointwise [seconds]

theorem eye_apply (g h : Fin 4) : eye (ix2 g h) = if g = h then (1 : EReal) else 0 := by
  have e : IntOp.cmpi .eq (IntOp.addi (BitVec.ofNat 32 g.val) 0#32) (BitVec.ofNat 32 h.val) = if g = h then 1#1 else 0#1 := by
    revert g h
    decide
  pointwise [eye]
  rw [e]
  by_cases hgh : g = h
  · rw [if_pos hgh, if_pos hgh]
    show (((1#1 : BitVec 1).toNat : ℝ) : EReal) = 1
    simp
  · rw [if_neg hgh, if_neg hgh]
    show (((0#1 : BitVec 1).toNat : ℝ) : EReal) = 0
    simp

theorem spreadCols_apply (p : V S4x64) (g h : Fin 4) (d : Fin 64) :
    spreadCols p (ix2 ⟨64 * g.val + d.val, by omega⟩ h) = p (ix2 g d) * eye (ix2 g h) := by
  pointwise [spreadCols]

theorem spreadRows_apply (p : V S4x64) (g h : Fin 4) (d : Fin 64) :
    spreadRows p (ix2 h ⟨64 * g.val + d.val, by omega⟩) = eye (ix2 h g) * p (ix2 g d) := by
  pointwise [spreadRows]

end Cert.HostValue

end
-- ==== Proof.Value.Pass1.lean ====
/- The first kernel's block, read at an index. -/
module

public import proofs.«01_k».proof.Proof.KernelIdeal.Pass1Body
public import proofs.«01_k».proof.Proof.Value.Math
public import proofs.«01_k».proof.Proof.Value.Consts
public import Idealize.ShloMosaic.Lib.Pointwise
public import Idealize.ShloMosaic.Lib.Pipeline.ValueKit

@[expose] public section

set_option maxRecDepth 16384

noncomputable section

namespace Cert.Pass1Value

open Idealize.ShloMosaic Cert.KernelIdeal Cert.KernelIdeal.Gen Cert.KernelIdeal.Pass1

theorem slope_eq : Ideal.ofBits .f32 0x3E4CCCCD#32 = (Gat.slope : EReal) := Consts.ofBits_slope
theorem share_eq : Ideal.ofBits .f32 0x39800000#32 = (Gat.share : EReal) := Consts.ofBits_share

/-- An entry of head `h`'s slab from the scratch: of the row `i`, whose edges are `x`, with the further factors `E`. -/
def row (s : Scr Ideal) (x : Fin 4096 → EReal) (i : Fin 4096) (E : Fin 4096 → EReal) (h : Fin 4) (d : Fin 64) : EReal :=
  Gat.elu (Gat.finish
    (∑ k : Fin 4096, max (s.e1 (ix2 i h) * s.f2 (ix2 h k)) (s.g1 (ix2 i h) * s.h2 (ix2 h k)) * E k * x k * s.wh (ix2 k ⟨128 * h.val + 64, by omega⟩))
    (s.sum (ix2 0 ⟨64 * h.val + d.val, by omega⟩))
    (∑ k : Fin 4096, max (s.e1 (ix2 i h) * s.f2 (ix2 h k)) (s.g1 (ix2 i h) * s.h2 (ix2 h k)) * E k * x k * s.wh (ix2 k ⟨128 * h.val + d.val, by omega⟩)))

/-- The row of the whole array that is the row `r` of the point `i`'s block. -/
def at' (i : grid0.Coords) (r : Fin 512) : Fin 4096 := ⟨512 * (i 0).val + r.val, by have : (i 0).val < 8 := (i 0).isLt; omega⟩

theorem eOf_apply (i : grid0.Coords) (s : Scr Ideal) (r : Fin 512) (h : Fin 4) : eOf i s (ix2 r h) = s.e1 (ix2 (at' i r) h) := by
  pointwise [eOf, gOf, k0_off1_eq, at']

theorem gOf_apply (i : grid0.Coords) (s : Scr Ideal) (r : Fin 512) (h : Fin 4) : gOf i s (ix2 r h) = s.g1 (ix2 (at' i r) h) := by
  pointwise [eOf, gOf, k0_off1_eq, at']

theorem qOf_apply (i : grid0.Coords) (s : Scr Ideal) (r : Fin 512) (d : Fin 32) :
    View.ld (Val := Elt Ideal) (e' := .bf16) s.q (rowsQ i) (ix2 r d) = s.q (ix2 (at' i r) d) := by
  pointwise [k0_off2_eq, at']

theorem head0_apply (i : grid0.Coords) (adj : Vec Ideal S512x4096 .f32) (s : Scr Ideal) (r : Fin 512) (d : Fin 64) :
    head0 i adj s (ix2 r d) = row s (fun k => adj (ix2 r k)) (at' i r) (fun _ => 1) 0 d := by
  pointwise [head0, wh0, sum0, k0_pay16, k0_pay17, k0_pay18, k0_pay19, k0_pay13, eOf_apply, gOf_apply, share_eq, row, Gat.elu, Gat.finish]

theorem head1_apply (i : grid0.Coords) (adj : Vec Ideal S512x4096 .f32) (s : Scr Ideal) (r : Fin 512) (d : Fin 64) :
    head1 i adj s (ix2 r d) = row s (fun k => adj (ix2 r k)) (at' i r) (fun _ => 1) 1 d := by
  pointwise [head1, wh1, sum1, k0_pay20, k0_pay21, k0_pay22, k0_pay23, k0_pay13, eOf_apply, gOf_apply, share_eq, row, Gat.elu, Gat.finish]

theorem head2_apply (i : grid0.Coords) (adj : Vec Ideal S512x4096 .f32) (s : Scr Ideal) (r : Fin 512) (d : Fin 64) :
    head2 i adj s (ix2 r d) = row s (fun k => adj (ix2 r k)) (at' i r) (fun _ => 1) 2 d := by
  pointwise [head2, wh2, sum2, k0_pay24, k0_pay25, k0_pay26, k0_pay27, k0_pay28, k0_pay29, k0_pay13, eOf_apply, gOf_apply, share_eq, row, Gat.elu, Gat.finish]

theorem exp2_def (x : EReal) : FloatOps.exp2 (F := Ideal) (φ := .f32) x = Ideal.exp2 x := rfl

theorem head3_apply (i : grid0.Coords) (adj : Vec Ideal S512x4096 .f32) (s : Scr Ideal) (r : Fin 512) (d : Fin 64) :
    head3 i adj s (ix2 r d) = row s (fun k => adj (ix2 r k)) (at' i r)
      (fun k => Ideal.exp2 (∑ e : Fin 32, s.q (ix2 (at' i r) e) * s.kt (ix2 e k))) 3 d := by
  pointwise [head3, wh3, sum3, eqk, k0_pay15, k0_pay1, k0_pay30, k0_pay31, k0_pay32, k0_pay33, k0_pay34, k0_pay35, k0_pay13, eOf_apply, gOf_apply, k0_off2_eq, at', exp2_def, share_eq, row, Gat.elu, Gat.finish]

/-- The further factors of a head: the intent head's power of two, and one. -/
def factor (s : Scr Ideal) (i : Fin 4096) (h : Fin 4) (k : Fin 4096) : EReal :=
  if h = 3 then Ideal.exp2 (∑ e : Fin 32, s.q (ix2 i e) * s.kt (ix2 e k)) else 1

/-- The block at an index: its head's slab. -/
theorem out_apply (i : grid0.Coords) (adj : Vec Ideal S512x4096 .f32) (s : Scr Ideal) (r : Fin 512) (c : Fin 256) :
    out i adj s (ix2 r c) = Gat.pick (fun h d => row s (fun k => adj (ix2 r k)) (at' i r) (factor s (at' i r) h) h d) c := by
  unfold out slabs
  canon_tiles x h
  all_goals
    idx_vars x
    obtain rfl : r = x0 := Fin.ext h0
  · rw [head3_apply, Gat.pick_at _ c 3 x1 h1]; rfl
  · rw [head2_apply, Gat.pick_at _ c 2 x1 h1]; rfl
  · rw [head1_apply, Gat.pick_at _ c 1 x1 h1]; rfl
  · rw [head0_apply, Gat.pick_at _ c 0 x1 (h1.trans (by simp))]; rfl

/-! ### The scratch at an index -/

/-- The features of the four heads, side by side. -/
def feats (x : Vec Ideal S4096x128 .f32) (w : Vec Ideal S128x256 .f32) (i : Fin 4096) (c : Fin 256) : EReal :=
  ∑ k : Fin 128, x (ix2 i k) * w (ix2 k c)

theorem pay3_feat (x : Vec Ideal S4096x128 .f32) (w : Vec Ideal S128x256 .f32) (i : Fin 4096) (h : Fin 4) (d : Fin 64) :
    k0_pay3 x w (ix2 i ⟨128 * h.val + d.val, by omega⟩) = feats x w i ⟨64 * h.val + d.val, by omega⟩ := by
  pointwise [k0_pay3, k0_pay2, feats]
  split_ifs <;> first | omega | (refine Finset.sum_congr rfl fun k _ => ?_; congr 3; apply Fin.ext; simp only; omega)

theorem pay3_one (x : Vec Ideal S4096x128 .f32) (w : Vec Ideal S128x256 .f32) (i : Fin 4096) (h : Fin 4) :
    k0_pay3 x w (ix2 i ⟨128 * h.val + 64, by omega⟩) = (1 : EReal) := by
  pointwise [k0_pay3, k0_pay2]
  split_ifs <;> first | rfl | omega

theorem pay5_apply (x : Vec Ideal S4096x128 .f32) (w : Vec Ideal S128x256 .f32) (a : Vec Ideal S256x4 .f32) (i : Fin 4096) (h : Fin 4) :
    k0_pay5 x w a (ix2 i h) = Ideal.exp (∑ c : Fin 256, feats x w i c * a (ix2 c h)) := by
  pointwise [k0_pay5, k0_pay2, k0_pay4, feats]

theorem pay6_apply (x : Vec Ideal S4096x128 .f32) (w : Vec Ideal S128x256 .f32) (a : Vec Ideal S256x4 .f32) (i : Fin 4096) (h : Fin 4) :
    k0_pay6 x w a (ix2 i h) = Ideal.exp ((Gat.slope : EReal) * ∑ c : Fin 256, feats x w i c * a (ix2 c h)) := by
  pointwise [k0_pay6, k0_pay2, k0_pay4, slope_eq, feats]

theorem pay8_apply (x : Vec Ideal S4096x128 .f32) (w : Vec Ideal S128x256 .f32) (b : Vec Ideal S4x256 .f32) (h : Fin 4) (k : Fin 4096) :
    k0_pay8 (k0_pay7 x w b) (ix2 h k) = Ideal.exp (∑ c : Fin 256, b (ix2 h c) * feats x w k c) := by
  pointwise [k0_pay8, k0_pay2, k0_pay7, feats]

theorem pay9_apply (x : Vec Ideal S4096x128 .f32) (w : Vec Ideal S128x256 .f32) (b : Vec Ideal S4x256 .f32) (h : Fin 4) (k : Fin 4096) :
    k0_pay9 (k0_pay7 x w b) (ix2 h k) = Ideal.exp ((Gat.slope : EReal) * ∑ c : Fin 256, b (ix2 h c) * feats x w k c) := by
  pointwise [k0_pay9, k0_pay2, k0_pay7, slope_eq, feats]

/-- The scale of the intent head. -/
def scale : EReal := (((Real.log 2)⁻¹ * (Real.sqrt 32)⁻¹ : ℝ) : EReal)

theorem scale_eq : Named.named (F := Ideal) κ "qscale" (φ := .f32) 0x3E8293EE#32 = scale :=
  IdealRules.named_const.ideal_named_scalar _ _ _ _ rfl

theorem pay10_apply (x : Vec Ideal S4096x32 .f32) (w : Vec Ideal S32x32 .f32) (i : Fin 4096) (e : Fin 32) :
    k0_pay10 x w (ix2 i e) = (∑ c : Fin 32, x (ix2 i c) * w (ix2 c e)) * scale := by
  pointwise [k0_pay10, scale_eq]

theorem pay11_apply (x : Vec Ideal S4096x32 .f32) (w : Vec Ideal S32x32 .f32) (e : Fin 32) (k : Fin 4096) :
    k0_pay11 x w (ix2 e k) = ∑ c : Fin 32, w (ix2 e c) * x (ix2 k c) := by
  pointwise [k0_pay11]

theorem pay12_apply (x : Vec Ideal S4096x128 .f32) (w : Vec Ideal S128x256 .f32) (c : Fin 256) :
    k0_pay12 (k0_pay2 x w) (ix2 0 c) = ∑ k : Fin 4096, feats x w k c := by
  pointwise [k0_pay12, k0_pay2, feats]

/-- The adjacency handed to the second kernel. -/
theorem pay14_apply (adj : Vec Ideal S512x4096 .f32) (r : Fin 512) (k : Fin 4096) : k0_pay14 adj (ix2 r k) = FloatOps.fptosi (F := Ideal) (φ := .bf16) 8 (adj (ix2 r k)) := by
  pointwise [k0_pay14, k0_pay13]

end Cert.Pass1Value

end
-- ==== Proof.Value.Pass2.lean ====
/- The second kernel's block, read at an index. -/
module

public import proofs.«01_k».proof.Proof.KernelIdeal.Pass2Body
public import proofs.«01_k».proof.Proof.Value.Math
public import proofs.«01_k».proof.Proof.Value.Consts
public import Idealize.ShloMosaic.Lib.Pointwise
public import Idealize.ShloMosaic.Lib.Pipeline.ValueKit

@[expose] public section

set_option maxRecDepth 16384

noncomputable section

namespace Cert.Pass2Value

open Idealize.ShloMosaic Cert.KernelIdeal Cert.KernelIdeal.Gen Cert.KernelIdeal.Pass2

theorem slope_eq : Ideal.ofBits .f32 0x3E4CCCCD#32 = (Gat.slope : EReal) := Consts.ofBits_slope
theorem share_eq : Ideal.ofBits .f32 0x39800000#32 = (Gat.share : EReal) := Consts.ofBits_share

/-- An entry of the block before its hyperbolic tangent: of the row `i`, whose edges are `x`. -/
def row (s : Scr Ideal) (x : Fin 4096 → EReal) (i : Fin 4096) (d : Fin 128) : EReal :=
  Gat.finish
    (∑ k : Fin 4096, max (s.e1 (ix2 i 0) * s.f2 (ix2 0 k)) (s.g1 (ix2 i 0) * s.h2 (ix2 0 k)) * x k * s.wh (ix2 k 128))
    (s.sum (ix2 0 d))
    (∑ k : Fin 4096, max (s.e1 (ix2 i 0) * s.f2 (ix2 0 k)) (s.g1 (ix2 i 0) * s.h2 (ix2 0 k)) * x k * s.wh (ix2 k ⟨d.val, by omega⟩))

/-- The row of the whole array that is the row `r` of the point `i`'s block. -/
def at' (i : grid1.Coords) (r : Fin 1024) : Fin 4096 := ⟨1024 * (i 0).val + r.val, by have : (i 0).val < 4 := (i 0).isLt; omega⟩

/-- The adjacency's small integers, as numbers. -/
def edge (b : BitVec 8) : EReal := ((b.toInt : ℝ) : EReal)

theorem sitofp_eq (b : BitVec 8) : FloatOps.sitofp (F := Ideal) .bf16 b = edge b := rfl

theorem out_apply (i : grid1.Coords) (adj : Vec Ideal S1024x4096 .i8) (s : Scr Ideal) (r : Fin 1024) (d : Fin 128) :
    out i adj s (ix2 r d) = Ideal.tanh (row s (fun k => edge (adj (ix2 r k))) (at' i r) d) := by
  pointwise [out, k1_pay1, k1_pay11, k1_pay12, k1_pay13, k1_pay14, k1_pay15, k1_pay16, k1_off1_eq, at', share_eq, sitofp_eq, row, Gat.finish]

/-! ### The scratch at an index -/

/-- The features. -/
def feats (x : Vec Ideal S4096x256 .f32) (w : Vec Ideal S256x128 .f32) (i : Fin 4096) (c : Fin 128) : EReal :=
  ∑ k : Fin 256, x (ix2 i k) * w (ix2 k c)

theorem pay3_feat (x : Vec Ideal S4096x256 .f32) (w : Vec Ideal S256x128 .f32) (i : Fin 4096) (d : Fin 128) :
    k1_pay3 x w (ix2 i ⟨d.val, by omega⟩) = feats x w i d := by
  have h : d.val < 128 := d.isLt
  pointwise [k1_pay3, k1_pay2, feats, h]

theorem pay3_one (x : Vec Ideal S4096x256 .f32) (w : Vec Ideal S256x128 .f32) (i : Fin 4096) :
    k1_pay3 x w (ix2 i 128) = (1 : EReal) := by
  pointwise [k1_pay3, k1_pay2]

theorem pay5_apply (x : Vec Ideal S4096x256 .f32) (w : Vec Ideal S256x128 .f32) (a : Vec Ideal S128x1 .f32) (i : Fin 4096) :
    k1_pay5 x w a (ix2 i 0) = Ideal.exp (∑ c : Fin 128, feats x w i c * a (ix2 c 0)) := by
  pointwise [k1_pay5, k1_pay2, k1_pay4, feats]

theorem pay6_apply (x : Vec Ideal S4096x256 .f32) (w : Vec Ideal S256x128 .f32) (a : Vec Ideal S128x1 .f32) (i : Fin 4096) :
    k1_pay6 x w a (ix2 i 0) = Ideal.exp ((Gat.slope : EReal) * ∑ c : Fin 128, feats x w i c * a (ix2 c 0)) := by
  pointwise [k1_pay6, k1_pay2, k1_pay4, slope_eq, feats]

theorem pay8_apply (x : Vec Ideal S4096x256 .f32) (w : Vec Ideal S256x128 .f32) (b : Vec Ideal S1x128 .f32) (k : Fin 4096) :
    k1_pay8 x w b (ix2 0 k) = Ideal.exp (∑ c : Fin 128, b (ix2 0 c) * feats x w k c) := by
  pointwise [k1_pay8, k1_pay2, k1_pay7, feats]

theorem pay9_apply (x : Vec Ideal S4096x256 .f32) (w : Vec Ideal S256x128 .f32) (b : Vec Ideal S1x128 .f32) (k : Fin 4096) :
    k1_pay9 (k1_pay7 x w b) (ix2 0 k) = Ideal.exp ((Gat.slope : EReal) * ∑ c : Fin 128, b (ix2 0 c) * feats x w k c) := by
  pointwise [k1_pay9, k1_pay2, k1_pay7, slope_eq, feats]

theorem pay10_apply (x : Vec Ideal S4096x256 .f32) (w : Vec Ideal S256x128 .f32) (c : Fin 128) :
    k1_pay10 (k1_pay2 x w) (ix2 0 c) = ∑ k : Fin 4096, feats x w k c := by
  pointwise [k1_pay10, k1_pay2, feats]

theorem clamped (lo hi : Int) (r : ℝ) : Ideal.toIntClamped lo hi (r : EReal) = max lo (min hi (if 0 ≤ r then ⌊r⌋ else ⌈r⌉)) := rfl

/-- An edge's weight comes back through the small integers. -/
theorem edge_zero : edge (FloatOps.fptosi (F := Ideal) (φ := .f32) 8 (0 : EReal)) = 0 := by
  have h : Ideal.fptosi 8 (0 : EReal) = 0#8 := by
    rw [← EReal.coe_zero, Ideal.fptosi, clamped, if_pos (le_refl _), Int.floor_zero]
    decide
  show edge (Ideal.fptosi 8 (0 : EReal)) = 0
  rw [h]
  simp [edge]

theorem edge_one : edge (FloatOps.fptosi (F := Ideal) (φ := .f32) 8 (1 : EReal)) = 1 := by
  have h : Ideal.fptosi 8 (1 : EReal) = 1#8 := by
    rw [← EReal.coe_one, Ideal.fptosi, clamped, if_pos zero_le_one, Int.floor_one]
    decide
  show edge (Ideal.fptosi 8 (1 : EReal)) = 1
  rw [h]
  simp [edge]

end Cert.Pass2Value

end
-- ==== Proof.Value.Arrays.lean ====
/- The arrays that the two kernels leave, and the arrays that they read. -/
module

public import proofs.«01_k».proof.Proof.Value.Pass1
public import proofs.«01_k».proof.Proof.Value.Pass2
public import proofs.«01_k».proof.Proof.KernelIdeal.RunAll
public import Idealize.ShloMosaic.Lib.Pipeline.ValueKit

@[expose] public section

set_option maxRecDepth 16384

noncomputable section

namespace Cert.Arrays

open Idealize.ShloMosaic Idealize.ShloMosaic.TcCoe Cert.KernelIdeal Cert.KernelIdeal.Gen
open Idealize.ShloMosaic.Pipeline (Dat)

variable (W : (c : Dev nD) → Valuation τ sig (Elt Ideal)) (c : Dev nD)

/-! ### Where the windows stand -/

theorem at0_0 : ∀ t : Fin cfg0.N, win0_0.index t 0 = 0 ∧ win0_0.index t 1 = 0 := by decide +kernel
theorem at0_1 : ∀ t : Fin cfg0.N, win0_1.index t 0 = (grid0.coords t 0).val ∧ win0_1.index t 1 = 0 := by decide +kernel
theorem at0_2 : ∀ t : Fin cfg0.N, win0_2.index t 0 = 0 ∧ win0_2.index t 1 = 0 := by decide +kernel
theorem at0_3 : ∀ t : Fin cfg0.N, win0_3.index t 0 = 0 ∧ win0_3.index t 1 = 0 := by decide +kernel
theorem at0_4 : ∀ t : Fin cfg0.N, win0_4.index t 0 = 0 ∧ win0_4.index t 1 = 0 := by decide +kernel
theorem at0_5 : ∀ t : Fin cfg0.N, win0_5.index t 0 = 0 ∧ win0_5.index t 1 = 0 := by decide +kernel
theorem at0_6 : ∀ t : Fin cfg0.N, win0_6.index t 0 = 0 ∧ win0_6.index t 1 = 0 := by decide +kernel
theorem at0_7 : ∀ t : Fin cfg0.N, win0_7.index t 0 = 0 ∧ win0_7.index t 1 = 0 := by decide +kernel
theorem at0_8 : ∀ t : Fin cfg0.N, win0_8.index t 0 = (grid0.coords t 0).val ∧ win0_8.index t 1 = 0 := by decide +kernel
theorem at0_9 : ∀ t : Fin cfg0.N, win0_9.index t 0 = (grid0.coords t 0).val ∧ win0_9.index t 1 = 0 := by decide +kernel
theorem at1_0 : ∀ t : Fin cfg1.N, win1_0.index t 0 = 0 ∧ win1_0.index t 1 = 0 := by decide +kernel
theorem at1_1 : ∀ t : Fin cfg1.N, win1_1.index t 0 = (grid1.coords t 0).val ∧ win1_1.index t 1 = 0 := by decide +kernel
theorem at1_2 : ∀ t : Fin cfg1.N, win1_2.index t 0 = 0 ∧ win1_2.index t 1 = 0 := by decide +kernel
theorem at1_3 : ∀ t : Fin cfg1.N, win1_3.index t 0 = 0 ∧ win1_3.index t 1 = 0 := by decide +kernel
theorem at1_4 : ∀ t : Fin cfg1.N, win1_4.index t 0 = 0 ∧ win1_4.index t 1 = 0 := by decide +kernel
theorem at1_5 : ∀ t : Fin cfg1.N, win1_5.index t 0 = (grid1.coords t 0).val ∧ win1_5.index t 1 = 0 := by decide +kernel

/-! ### What the first kernel reads -/

theorem p1_x (t : Fin cfg0.N) : Pass1.iblk W c 0 t = (W c main_arg0 : Vec Ideal S4096x128 .f32) := by
  funext y; idx_vars y; blk_ext [Pass1.iblk, at0_0 t]
theorem p1_adj (t : Fin cfg0.N) (r : Fin 512) (k : Fin 4096) :
    (Pass1.iblk W c 1 t : Vec Ideal S512x4096 .f32) (ix2 r k) = (W c main_arg1 : Vec Ideal S4096x4096 .f32) (ix2 (Pass1Value.at' (grid0.coords t) r) k) := by
  blk_ext [Pass1.iblk, Pass1Value.at', at0_1 t]
theorem p1_e (t : Fin cfg0.N) : Pass1.iblk W c 2 t = (W c main_arg2 : Vec Ideal S4096x32 .f32) := by
  funext y; idx_vars y; blk_ext [Pass1.iblk, at0_2 t]
theorem p1_wcat (t : Fin cfg0.N) : Pass1.iblk W c 3 t = (W c main_v0 : Vec Ideal S128x256 .f32) := by
  funext y; idx_vars y; blk_ext [Pass1.iblk, at0_3 t]
theorem p1_cols (t : Fin cfg0.N) : Pass1.iblk W c 4 t = (W c main_v30 : Vec Ideal S256x4 .f32) := by
  funext y; idx_vars y; blk_ext [Pass1.iblk, at0_4 t]
theorem p1_rows (t : Fin cfg0.N) : Pass1.iblk W c 5 t = (W c main_v36 : Vec Ideal S4x256 .f32) := by
  funext y; idx_vars y; blk_ext [Pass1.iblk, at0_5 t]
theorem p1_q (t : Fin cfg0.N) : Pass1.iblk W c 6 t = (W c main_arg11 : Vec Ideal S32x32 .f32) := by
  funext y; idx_vars y; blk_ext [Pass1.iblk, at0_6 t]
theorem p1_kT (t : Fin cfg0.N) : Pass1.iblk W c 7 t = (W c main_v37 : Vec Ideal S32x32 .f32) := by
  funext y; idx_vars y; blk_ext [Pass1.iblk, at0_7 t]

/-! ### What the second kernel reads -/

theorem p2_x (t : Fin cfg1.N) : Pass2.iblk W c 0 t = (W c main_v42_0 : Vec Ideal S4096x256 .f32) := by
  funext y; idx_vars y; blk_ext [Pass2.iblk, at1_0 t]
theorem p2_adj (t : Fin cfg1.N) (r : Fin 1024) (k : Fin 4096) :
    (Pass2.iblk W c 1 t : Vec Ideal S1024x4096 .i8) (ix2 r k) = (W c main_v42_1 : Vec Ideal S4096x4096 .i8) (ix2 (Pass2Value.at' (grid1.coords t) r) k) := by
  blk_ext [Pass2.iblk, Pass2Value.at', at1_1 t]
theorem p2_w (t : Fin cfg1.N) : Pass2.iblk W c 2 t = (W c main_arg13 : Vec Ideal S256x128 .f32) := by
  funext y; idx_vars y; blk_ext [Pass2.iblk, at1_2 t]
theorem p2_col (t : Fin cfg1.N) : Pass2.iblk W c 3 t = (W c main_v39 : Vec Ideal S128x1 .f32) := by
  funext y; idx_vars y; blk_ext [Pass2.iblk, at1_3 t]
theorem p2_row (t : Fin cfg1.N) : Pass2.iblk W c 4 t = (W c main_v41 : Vec Ideal S1x128 .f32) := by
  funext y; idx_vars y; blk_ext [Pass2.iblk, at1_4 t]

/-! ### What they leave -/

/-- The concatenated heads, row after row. -/
def xcat (s : Pass1.Scr Ideal) (adj : Vec Ideal S4096x4096 .f32) (i : Fin 4096) (j : Fin 256) : EReal :=
  Gat.pick (fun h d => Pass1Value.row s (fun k => adj (ix2 i k)) i (Pass1Value.factor s i h) h d) j

theorem p1_out : (Pass1.dat W c).arrAt 8 cfg0.N = (fun y => xcat (Pass1.scr0 W c) (W c main_arg1) (y 0) (y 1) : Vec Ideal S4096x256 .f32) := by
  refine (Pass1.dat W c).arrAt_eq_of_covers 8 _ (by decide +kernel) fun t hf y => ?_
  blk_simp
  rw [Pass1.after_8]
  idx_vars y
  have e : ((View.whole main_v42_0).slice (win0_8.rect t)).emb (ix2 y0 y1) = ix2 (Pass1Value.at' (grid0.coords t) y0) y1 := by
    blk_ext [Pass1Value.at', at0_8 t]
  rw [e, Pass1Value.out_apply]
  simp only [p1_adj]
  rfl

theorem p1_out_adj : (Pass1.dat W c).arrAt 9 cfg0.N
    = (fun y => FloatOps.fptosi (F := Ideal) (φ := .f32) 8 ((W c main_arg1 : Vec Ideal S4096x4096 .f32) y) : Vec Ideal S4096x4096 .i8) := by
  refine (Pass1.dat W c).arrAt_eq_of_covers 9 _ (by decide +kernel) fun t hf y => ?_
  blk_simp
  rw [Pass1.after_9]
  idx_vars y
  have e : ((View.whole main_v42_1).slice (win0_9.rect t)).emb (ix2 y0 y1) = ix2 (Pass1Value.at' (grid0.coords t) y0) y1 := by
    blk_ext [Pass1Value.at', at0_9 t]
  rw [e, Pass1Value.pay14_apply, p1_adj]
  rfl

theorem p2_out : (Pass2.dat W c).arrAt 5 cfg1.N
    = (fun y => Ideal.tanh (Pass2Value.row (Pass2.scr0 W c) (fun k => Pass2Value.edge ((W c main_v42_1 : Vec Ideal S4096x4096 .i8) (ix2 (y 0) k))) (y 0) (y 1)) : Vec Ideal S4096x128 .f32) := by
  refine (Pass2.dat W c).arrAt_eq_of_covers 5 _ (by decide +kernel) fun t hf y => ?_
  blk_simp
  rw [Pass2.after_5]
  idx_vars y
  have e : ((View.whole main_v43).slice (win1_5.rect t)).emb (ix2 y0 y1) = ix2 (Pass2Value.at' (grid1.coords t) y0) y1 := by
    blk_ext [Pass2Value.at', at1_5 t]
  rw [e, Pass2Value.out_apply]
  simp only [p2_adj]
  rfl

end Cert.Arrays

end
-- ==== Proof.Value.KernelSide.lean ====
/- The kernel's result is the network. -/
module

public import proofs.«01_k».proof.Proof.Value.Model
public import proofs.«01_k».proof.Proof.Value.Host
public import proofs.«01_k».proof.Proof.Value.Arrays

@[expose] public section

set_option maxRecDepth 16384

noncomputable section

namespace Cert.KernelSide

open Idealize.ShloMosaic Idealize.ShloMosaic.TcCoe Cert.KernelIdeal Cert.KernelIdeal.Gen Cert.KernelIdeal.RunAll Cert.Model Cert.HostValue

variable (A : Args)

/-- What the first kernel's scratch holds. -/
def scr1 : Pass1.Scr Ideal :=
  Pass1.scr A.x A.e (wcat (A.w 0) (A.w 1) (A.w 2) (A.w 3)) (spreadCols (firsts (A.a 0) (A.a 1) (A.a 2) (A.a 3)))
    (spreadRows (seconds (A.a 0) (A.a 1) (A.a 2) (A.a 3))) A.q (transpose S32x32 [1, 0] A.k transposes_S32x32_S32x32_1_0)

theorem four {α : Type} (f : Fin 4 → α) (h : Fin 4) : ![f 0, f 1, f 2, f 3] h = f h := by
  fin_cases h <;> rfl

theorem feats_eq (i : Fin 4096) (h : Fin 4) (d : Fin 64) :
    Pass1Value.feats A.x (wcat (A.w 0) (A.w 1) (A.w 2) (A.w 3)) i ⟨64 * h.val + d.val, by omega⟩ = feat A h i d := by
  unfold Pass1Value.feats feat
  refine Finset.sum_congr rfl fun k _ => ?_
  rw [wcat_apply, Gat.pick_at _ _ h d rfl, four]

theorem row_logit (i : Fin 4096) (h : Fin 4) :
    ∑ c : Fin 256, Pass1Value.feats A.x (wcat (A.w 0) (A.w 1) (A.w 2) (A.w 3)) i c * spreadCols (firsts (A.a 0) (A.a 1) (A.a 2) (A.a 3)) (ix2 c h)
      = rowLogit A h i := by
  rw [Gat.sum_heads]
  simp only [feats_eq, spreadCols_apply, firsts_apply, four, ← mul_assoc]
  exact Gat.sum_head (fun g d => feat A g i d * A.a g (ix1 ⟨d.val, by omega⟩)) h (fun g => eye (ix2 g h)) fun g => eye_apply g h

theorem col_logit (k : Fin 4096) (h : Fin 4) :
    ∑ c : Fin 256, spreadRows (seconds (A.a 0) (A.a 1) (A.a 2) (A.a 3)) (ix2 h c) * Pass1Value.feats A.x (wcat (A.w 0) (A.w 1) (A.w 2) (A.w 3)) k c
      = colLogit A h k := by
  rw [Gat.sum_heads]
  simp only [feats_eq, spreadRows_apply, seconds_apply, four]
  refine Eq.trans ?_ (Gat.sum_head (fun g d => feat A g k d * A.a g (ix1 ⟨64 + d.val, by omega⟩)) h (fun g => eye (ix2 h g))
    fun g => by rw [eye_apply]; exact if_congr eq_comm rfl rfl)
  refine Finset.sum_congr rfl fun g _ => Finset.sum_congr rfl fun d _ => ?_
  ac_rfl

theorem s1_one (k : Fin 4096) (h : Fin 4) : (scr1 A).wh (ix2 k ⟨128 * h.val + 64, by omega⟩) = (1 : EReal) := Pass1Value.pay3_one _ _ k h
theorem s1_feat (k : Fin 4096) (h : Fin 4) (d : Fin 64) : (scr1 A).wh (ix2 k ⟨128 * h.val + d.val, by omega⟩) = feat A h k d :=
  (Pass1Value.pay3_feat _ _ k h d).trans (feats_eq A k h d)
theorem s1_e1 (i : Fin 4096) (h : Fin 4) : (scr1 A).e1 (ix2 i h) = Ideal.exp (rowLogit A h i) := by
  rw [← row_logit]; exact Pass1Value.pay5_apply _ _ _ i h
theorem s1_g1 (i : Fin 4096) (h : Fin 4) : (scr1 A).g1 (ix2 i h) = Ideal.exp ((Gat.slope : EReal) * rowLogit A h i) := by
  rw [← row_logit]; exact Pass1Value.pay6_apply _ _ _ i h
theorem s1_f2 (k : Fin 4096) (h : Fin 4) : (scr1 A).f2 (ix2 h k) = Ideal.exp (colLogit A h k) := by
  rw [← col_logit]; exact Pass1Value.pay8_apply _ _ _ h k
theorem s1_h2 (k : Fin 4096) (h : Fin 4) : (scr1 A).h2 (ix2 h k) = Ideal.exp ((Gat.slope : EReal) * colLogit A h k) := by
  rw [← col_logit]; exact Pass1Value.pay9_apply _ _ _ h k
theorem s1_sum (h : Fin 4) (d : Fin 64) : (scr1 A).sum (ix2 0 ⟨64 * h.val + d.val, by omega⟩) = ∑ k : Fin 4096, feat A h k d := by
  refine (Pass1Value.pay12_apply _ _ _).trans (Finset.sum_congr rfl fun k _ => feats_eq A k h d)
theorem s1_q (i : Fin 4096) (e : Fin 32) : (scr1 A).q (ix2 i e) = query A i e * Pass1Value.scale := Pass1Value.pay10_apply _ _ i e
theorem s1_kt (e : Fin 32) (k : Fin 4096) : (scr1 A).kt (ix2 e k) = key A k e := by
  refine (Pass1Value.pay11_apply _ _ e k).trans (Finset.sum_congr rfl fun c _ => ?_)
  rw [mul_comm]
  congr 1
  pointwise []

variable {A} (hA : A.Good)
include hA

/-- The last head's factor is the exponential of the similarity; the others have none. -/
theorem factor_eq (h : Fin 4) (i k : Fin 4096) : Pass1Value.factor (scr1 A) i h k = Ideal.exp (extra A h i k) := by
  unfold Pass1Value.factor extra
  by_cases h3 : h = 3
  · rw [if_pos h3, if_pos h3]
    simp only [s1_q, s1_kt]
    choose q hq using num_query hA i
    choose κ hκ using num_key hA k
    unfold sim
    simp only [hq, hκ]
    unfold Pass1Value.scale
    rw [Gat.exp2_scaled]
    simp only [← EReal.coe_mul]
    rw [← Gat.coe_sum, Ideal.div_coe (Real.sqrt_pos.2 (by norm_num)).ne', ← EReal.coe_mul, div_eq_mul_inv, one_div]
  · rw [if_neg h3, if_neg h3, ← EReal.coe_zero, Ideal.exp_coe, Real.exp_zero, EReal.coe_one]

/-- An entry of the first kernel's block is the network's. -/
theorem row_eq (i : Fin 4096) (h : Fin 4) (d : Fin 64) :
    Pass1Value.row (scr1 A) (fun k => A.adj (ix2 i k)) i (Pass1Value.factor (scr1 A) i h) h d = Gat.elu (cell A h i d) := by
  unfold Pass1Value.row cell
  rw [← Gat.kernel_cell (a := fun k : Fin 4096 => A.adj (ix2 i k)) (fun k => hA.adj _) (num_rowLogit hA h i) (num_colLogit hA h) (num_extra hA h i) fun k => num_feat hA h k d]
  simp only [s1_one, s1_feat, s1_e1, s1_g1, s1_f2, s1_h2, s1_sum, factor_eq hA, mul_one, Gat.kweight]

theorem xcat_eq (i : Fin 4096) (c : Fin 256) : Arrays.xcat (scr1 A) A.adj i c = Model.hidden A i c := by
  unfold Arrays.xcat Model.hidden
  simp only [row_eq hA]

/-! ### The second kernel -/

omit hA

variable (A)

/-- The first layer, as an array. -/
def layer : FVec Ideal S4096x256 .f32 := fun y => Model.hidden A (y 0) (y 1)

/-- What the second kernel's scratch holds. -/
def scr2 : Pass2.Scr Ideal :=
  Pass2.scr (layer A) A.wo (shapeCast S128x1 (extractStridedSlice S128 ![0] A.ao slices_S256_S128_0) shapeCasts_S128_S128x1)
    (shapeCast S1x128 (extractStridedSlice S128 ![128] A.ao slices_S256_S128_128) shapeCasts_S128_S1x128)

theorem featsO_eq (i : Fin 4096) (d : Fin 128) : Pass2Value.feats (layer A) A.wo i d = featO A i d := rfl

theorem colAt (c : Fin 128) : shapeCast S128x1 (extractStridedSlice S128 ![0] A.ao slices_S256_S128_0) shapeCasts_S128_S128x1 (ix2 c 0) = A.ao (ix1 ⟨c.val, by omega⟩) := by
  pointwise []
theorem rowAt (c : Fin 128) : shapeCast S1x128 (extractStridedSlice S128 ![128] A.ao slices_S256_S128_128) shapeCasts_S128_S1x128 (ix2 0 c) = A.ao (ix1 ⟨128 + c.val, by omega⟩) := by
  pointwise []

theorem row_logitO (i : Fin 4096) :
    ∑ c : Fin 128, Pass2Value.feats (layer A) A.wo i c * shapeCast S128x1 (extractStridedSlice S128 ![0] A.ao slices_S256_S128_0) shapeCasts_S128_S128x1 (ix2 c 0)
      = rowLogitO A i := by
  simp only [colAt, featsO_eq]; rfl
theorem col_logitO (k : Fin 4096) :
    ∑ c : Fin 128, shapeCast S1x128 (extractStridedSlice S128 ![128] A.ao slices_S256_S128_128) shapeCasts_S128_S1x128 (ix2 0 c) * Pass2Value.feats (layer A) A.wo k c
      = colLogitO A k := by
  simp only [rowAt, featsO_eq]
  exact Finset.sum_congr rfl fun c _ => mul_comm _ _

theorem s2_one (k : Fin 4096) : (scr2 A).wh (ix2 k 128) = (1 : EReal) := Pass2Value.pay3_one _ _ k
theorem s2_feat (k : Fin 4096) (d : Fin 128) : (scr2 A).wh (ix2 k ⟨d.val, by omega⟩) = featO A k d := Pass2Value.pay3_feat _ _ k d
theorem s2_e1 (i : Fin 4096) : (scr2 A).e1 (ix2 i 0) = Ideal.exp (rowLogitO A i) := by
  rw [← row_logitO]; exact Pass2Value.pay5_apply _ _ _ i
theorem s2_g1 (i : Fin 4096) : (scr2 A).g1 (ix2 i 0) = Ideal.exp ((Gat.slope : EReal) * rowLogitO A i) := by
  rw [← row_logitO]; exact Pass2Value.pay6_apply _ _ _ i
theorem s2_f2 (k : Fin 4096) : (scr2 A).f2 (ix2 0 k) = Ideal.exp (colLogitO A k) := by
  rw [← col_logitO]; exact Pass2Value.pay8_apply _ _ _ k
theorem s2_h2 (k : Fin 4096) : (scr2 A).h2 (ix2 0 k) = Ideal.exp ((Gat.slope : EReal) * colLogitO A k) := by
  rw [← col_logitO]; exact Pass2Value.pay9_apply _ _ _ k
theorem s2_sum (d : Fin 128) : (scr2 A).sum (ix2 0 d) = ∑ k : Fin 4096, featO A k d := Pass2Value.pay10_apply _ _ d

variable {A}
include hA

/-- An entry of the second kernel's block is the network's. -/
theorem rowO_eq (i : Fin 4096) (d : Fin 128) :
    Ideal.tanh (Pass2Value.row (scr2 A) (fun k => A.adj (ix2 i k)) i d) = result A i d := by
  unfold Pass2Value.row result
  rw [← Gat.kernel_cell (a := fun k : Fin 4096 => A.adj (ix2 i k)) (fun k => hA.adj _) (num_rowLogitO hA i) (num_colLogitO hA)
    (fun _ => ⟨0, EReal.coe_zero.symm⟩) fun k => num_featO hA k d]
  simp only [s2_one, s2_feat, s2_e1, s2_g1, s2_f2, s2_h2, s2_sum, mul_one, Gat.kweight_zero]

/-- The edges come back from the small integers. -/
theorem edges (i : S4096x4096.Idx) : Pass2Value.edge (FloatOps.fptosi (F := Ideal) (φ := .f32) 8 (A.adj i)) = A.adj i := by
  rcases hA.adj i with h | h <;> rw [h]
  · exact Pass2Value.edge_zero
  · exact Pass2Value.edge_one

/-! ### The program -/

omit hA
variable (m : (ℓ : Loc nD τ sig) → Buf (Elt Ideal) ℓ) (c : Dev nD)

/-- The arguments in a memory. -/
def args : Args where
  x := m (c, main_arg0)
  adj := m (c, main_arg1)
  e := m (c, main_arg2)
  w := ![m (c, main_arg3), m (c, main_arg5), m (c, main_arg7), m (c, main_arg9)]
  a := ![m (c, main_arg4), m (c, main_arg6), m (c, main_arg8), m (c, main_arg10)]
  q := m (c, main_arg11)
  k := m (c, main_arg12)
  wo := m (c, main_arg13)
  ao := m (c, main_arg14)

theorem W1_arg (r : Ref sig .tc) (h : r ∉ hostOps0_W) : W1 m c r = m (c, r) := V1_of m c r h

theorem scr0_eq : Pass1.scr0 (W1 m) c = scr1 (args m c) := by
  unfold Pass1.scr0
  rw [Arrays.p1_x, Arrays.p1_e, Arrays.p1_wcat, Arrays.p1_cols, Arrays.p1_rows, Arrays.p1_q, Arrays.p1_kT,
    W1_wcat, W1_cols, W1_rows, W1_kT, W1_arg m c main_arg0 (by decide), W1_arg m c main_arg2 (by decide), W1_arg m c main_arg11 (by decide)]
  rfl

variable {m c} (hm : (args m c).Good)
include hm

/-- What the first kernel leaves. -/
theorem first_layer : W2 m c main_v42_0 = layer (args m c) := by
  refine (W2_xcat m c).trans ?_
  rw [Arrays.p1_out, scr0_eq, W1_arg m c main_arg1 (by decide)]
  exact funext fun y => xcat_eq hm (y 0) (y 1)

theorem scr0_eq' : Pass2.scr0 (W2 m) c = scr2 (args m c) := by
  unfold Pass2.scr0
  rw [Arrays.p2_x, Arrays.p2_w, Arrays.p2_col, Arrays.p2_row, first_layer hm,
    show W2 m c main_arg13 = m (c, main_arg13) from (W2_of m c main_arg13 (by decide)).trans (W1_arg m c main_arg13 (by decide)),
    show W2 m c main_v39 = W1 m c main_v39 from W2_of m c main_v39 (by decide),
    show W2 m c main_v41 = W1 m c main_v41 from W2_of m c main_v41 (by decide), W1_col, W1_row]
  rfl

/-- What the program leaves. -/
theorem result_eq : W3 m c main_v43 = (fun y => result (args m c) (y 0) (y 1) : FVec Ideal S4096x128 .f32) := by
  refine (W3_result m c).trans ?_
  rw [Arrays.p2_out, scr0_eq' hm, show W2 m c main_v42_1 = _ from (W2_adj m c).trans (Arrays.p1_out_adj _ _), W1_arg m c main_arg1 (by decide)]
  refine funext fun y => ?_
  refine Eq.trans ?_ (rowO_eq hm (y 0) (y 1))
  exact congrArg (fun x => Ideal.tanh (Pass2Value.row (scr2 (args m c)) x (y 0) (y 1))) (funext fun k => edges hm (ix2 (y 0) k))

end Cert.KernelSide

end
-- ==== Proof.Value.Reference.lean ====
/- The reference's layers, each of its steps read at an index. -/
module

public import proofs.«01_k».proof.Proof.Gen.ReferenceIdeal
public import proofs.«01_k».proof.Proof.Value.Math
public import proofs.«01_k».proof.Proof.Value.Consts
public import Idealize.ShloMosaic.Lib.Pointwise

@[expose] public section

set_option maxRecDepth 16384

noncomputable section

namespace Cert.RefValue

open Idealize.ShloMosaic Cert.ReferenceIdeal Cert.ReferenceIdeal.Gen

/-- Arrays of extended reals. -/
abbrev V (s : Shape) := FVec Ideal s .f32

theorem neg_inf : Ideal.ofBits .f32 0xFF800000#32 = (⊥ : EReal) := Consts.ofBits_bot
theorem slope_eq : Ideal.ofBits .f32 0x3E4CCCCD#32 = (Gat.slope : EReal) := Consts.ofBits_slope
theorem share_eq : Ideal.ofBits .f32 0x39800000#32 = (Gat.share : EReal) := Consts.ofBits_share

/-! ### The steps -/

/-- The features of the first layer. -/
def feat (x : V S4096x128) (w : V S128x64) : V S4096x64 := Host.dotGeneral dot_S4096x128_S128x64_S4096x64_1_0_0_1_n_n none x w

/-- The features of the second layer. -/
def featO (x : V S4096x256) (w : V S256x128) : V S4096x128 := Host.dotGeneral dot_S4096x256_S256x128_S4096x128_1_0_0_1_n_n none x w

/-- The first layer's sums of a row's and a column's logit. -/
def score (wh : V S4096x64) (a : V S128) : V S4096x4096 :=
  addf (broadcastInDim S4096x4096 ![0, 1] bcast_S4096x1_S4096x4096_0_1 (broadcastInDim S4096x1 ![0] bcast_S4096_S4096x1_0 (Host.dotGeneral dot_S4096x64_S64_S4096_1_0_0_n_n_n none wh (extractStridedSlice S64 ![0] a slices_S128_S64_0)))) (broadcastInDim S4096x4096 ![0, 1] bcast_S1x4096_S4096x4096_0_1 (broadcastInDim S1x4096 ![1] bcast_S4096_S1x4096_1 (Host.dotGeneral dot_S4096x64_S64_S4096_1_0_0_n_n_n none wh (extractStridedSlice S64 ![64] a slices_S128_S64_64))))

/-- The second layer's sums of a row's and a column's logit. -/
def scoreO (wh : V S4096x128) (a : V S256) : V S4096x4096 :=
  addf (broadcastInDim S4096x4096 ![0, 1] bcast_S4096x1_S4096x4096_0_1 (broadcastInDim S4096x1 ![0] bcast_S4096_S4096x1_0 (Host.dotGeneral dot_S4096x128_S128_S4096_1_0_0_n_n_n none wh (extractStridedSlice S128 ![0] a slices_S256_S128_0)))) (broadcastInDim S4096x4096 ![0, 1] bcast_S1x4096_S4096x4096_0_1 (broadcastInDim S1x4096 ![1] bcast_S4096_S1x4096_1 (Host.dotGeneral dot_S4096x128_S128_S4096_1_0_0_n_n_n none wh (extractStridedSlice S128 ![128] a slices_S256_S128_128))))

/-- The leaky unit of the logits. -/
def leaky (s : V S4096x4096) : V S4096x4096 :=
  select (cmpf .oge s (broadcastInDim S4096x4096 ![] bcast_S_S4096x4096 (constant S_ .f32 0x00000000#32))) s (mulf (broadcastInDim S4096x4096 ![] bcast_S_S4096x4096 (id (constant S_ .f32 0x3E4CCCCD#32))) s)

/-- The logits behind the mask. -/
def mask (adj s : V S4096x4096) : V S4096x4096 :=
  select (cmpf .ogt adj (broadcastInDim S4096x4096 ![] bcast_S_S4096x4096 (constant S_ .f32 0x00000000#32))) s (broadcastInDim S4096x4096 ![] bcast_S_S4096x4096 (id (constant S_ .f32 0xFF800000#32)))

/-- The intent head's similarity. -/
def sim (x : V S4096x32) (wq wk : V S32x32) : V S4096x4096 :=
  Host.divf (Host.dotGeneral dot_S4096x32_S32x4096_S4096x4096_1_0_0_1_n_n none (Host.dotGeneral dot_S4096x32_S32x32_S4096x32_1_0_0_1_n_n none x wq) (transpose S32x4096 [1, 0] (Host.dotGeneral dot_S4096x32_S32x32_S4096x32_1_0_0_1_n_n none x wk) transposes_S4096x32_S32x4096_1_0)) (broadcastInDim S4096x4096 ![] bcast_S_S4096x4096 (Host.sqrt (constant S_ .f32 0x42000000#32)))

/-- The exponentials of the logits less their row's greatest, the greatest taken from the starting value `z`. -/
def expoFrom (z : V S_) (e : V S4096x4096) : V S4096x4096 :=
  Host.exp (subf e (broadcastInDim S4096x4096 ![0, 1] bcast_S4096x1_S4096x4096_0_1 (broadcastInDim S4096x1 ![0] bcast_S4096_S4096x1_0 (maximumf (broadcastInDim S4096 ![] bcast_S_S4096 z) (Host.reduce FloatOps.maximumf e z reducesTo_S4096x4096_S4096_d1 h_S_)))))

/-- The exponentials of the softmax. -/
def expo (e : V S4096x4096) : V S4096x4096 := expoFrom (constant S_ .f32 0xFF800000#32) e

/-- The attention weights: the softmax, and the uniform weights where a row has no edge. -/
def att (adj p : V S4096x4096) : V S4096x4096 :=
  select (broadcastInDim S4096x4096 ![0, 1] bcast_S4096x1_S4096x4096_0_1 (broadcastInDim S4096x1 ![0] bcast_S4096_S4096x1_0 (Host.reduce IntOp.ori (cmpf .ogt adj (broadcastInDim S4096x4096 ![] bcast_S_S4096x4096 (constant S_ .f32 0x00000000#32))) (constantI S_ 1 0#1) reducesTo_S4096x4096_S4096_d1 h_S_))) (Host.divf p (broadcastInDim S4096x4096 ![0, 1] bcast_S4096x1_S4096x4096_0_1 (broadcastInDim S4096x1 ![0] bcast_S4096_S4096x1_0 (Host.reduceAdd p (constant S_ .f32 0x00000000#32) reducesTo_S4096x4096_S4096_d1 h_S_)))) (broadcastInDim S4096x4096 ![] bcast_S_S4096x4096 (constant S_ .f32 0x39800000#32))

/-- A head of the first layer before its unit, from the features and the masked logits. -/
def head (adj e : V S4096x4096) (wh : V S4096x64) : V S4096x64 :=
  Host.dotGeneral dot_S4096x4096_S4096x64_S4096x64_1_0_0_1_n_n none (att adj (expo e)) wh

/-- The second layer before its hyperbolic tangent. -/
def headO (adj e : V S4096x4096) (wh : V S4096x128) : V S4096x128 :=
  Host.dotGeneral dot_S4096x4096_S4096x128_S4096x128_1_0_0_1_n_n none (att adj (expo e)) wh

/-- The exponential linear unit. -/
def elu (o : V S4096x64) : V S4096x64 :=
  select (cmpf .ogt o (broadcastInDim S4096x64 ![] bcast_S_S4096x64 (constant S_ .f32 0x00000000#32))) o (mulf (broadcastInDim S4096x64 ![] bcast_S_S4096x64 (constant S_ .f32 0x3F800000#32)) (Host.expm1 (select (cmpf .ogt o (broadcastInDim S4096x64 ![] bcast_S_S4096x64 (constant S_ .f32 0x00000000#32))) (broadcastInDim S4096x64 ![] bcast_S_S4096x64 (id (constant S_ .f32 0x00000000#32))) o)))

/-- The four heads side by side. -/
def cat (h0 h1 h2 h3 : V S4096x64) : V S4096x256 :=
  concatenate S4096x256 1 [⟨S4096x64, h0⟩, ⟨S4096x64, h1⟩, ⟨S4096x64, h2⟩, ⟨S4096x64, h3⟩] concatenates_S4096x64_S4096x64_S4096x64_S4096x64_S4096x256_d1

/-! ### The steps at an index -/

theorem feat_apply (x : V S4096x128) (w : V S128x64) (i : Fin 4096) (j : Fin 64) :
    feat x w (ix2 i j) = ∑ k : Fin 128, x (ix2 i k) * w (ix2 k j) := by
  pointwise [feat]

theorem featO_apply (x : V S4096x256) (w : V S256x128) (i : Fin 4096) (j : Fin 128) :
    featO x w (ix2 i j) = ∑ k : Fin 256, x (ix2 i k) * w (ix2 k j) := by
  pointwise [featO]

theorem score_apply (wh : V S4096x64) (a : V S128) (i k : Fin 4096) :
    score wh a (ix2 i k) = ∑ d : Fin 64, wh (ix2 i d) * a (ix1 ⟨d.val, by omega⟩)
      + ∑ d : Fin 64, wh (ix2 k d) * a (ix1 ⟨64 + d.val, by omega⟩) := by
  pointwise [score]

theorem scoreO_apply (wh : V S4096x128) (a : V S256) (i k : Fin 4096) :
    scoreO wh a (ix2 i k) = ∑ d : Fin 128, wh (ix2 i d) * a (ix1 ⟨d.val, by omega⟩)
      + ∑ d : Fin 128, wh (ix2 k d) * a (ix1 ⟨128 + d.val, by omega⟩) := by
  pointwise [scoreO]

theorem leaky_apply (s : V S4096x4096) (i k : Fin 4096) : leaky s (ix2 i k) = Gat.leaky (s (ix2 i k)) := by
  pointwise [leaky, id_eq, slope_eq, Gat.leaky]

theorem mask_apply (adj s : V S4096x4096) (i k : Fin 4096) :
    mask adj s (ix2 i k) = Gat.masked (fun k => adj (ix2 i k)) (fun k => s (ix2 i k)) k := by
  pointwise [mask, id_eq, neg_inf, Gat.masked]

theorem sim_apply (x : V S4096x32) (wq wk : V S32x32) (i k : Fin 4096) :
    sim x wq wk (ix2 i k) = Ideal.div (∑ d : Fin 32, (∑ c : Fin 32, x (ix2 i c) * wq (ix2 c d)) * ∑ c : Fin 32, x (ix2 k c) * wk (ix2 c d))
      ((Real.sqrt 32 : ℝ) : EReal) := by
  pointwise [sim, Consts.ofBits_32]
  rw [Ideal.sqrt_coe, if_neg (by norm_num)]

theorem expoFrom_apply (z : V S_) (e : V S4096x4096) (i k : Fin 4096) :
    expoFrom z e (ix2 i k) = Ideal.exp (e (ix2 i k) - max (z ix0) (Finset.fold max (z (Shape.Idx.first h_S_)) (fun x : Fin 4096 => e (ix2 i x)) Finset.univ)) := by
  pointwise [expoFrom]

theorem expo_apply (e : V S4096x4096) (i k : Fin 4096) :
    expo e (ix2 i k) = Ideal.exp (e (ix2 i k) - Gat.top fun x : Fin 4096 => e (ix2 i x)) := by
  have hz : constant (F := Ideal) S_ .f32 0xFF800000#32 = fun _ => (⊥ : EReal) := funext fun _ => neg_inf
  rw [expo, hz, expoFrom_apply, Gat.top]

theorem att_apply (adj p : V S4096x4096) (i k : Fin 4096) :
    att adj p (ix2 i k) = Scalar.select (Finset.fold IntOp.ori (0#1) (fun x : Fin 4096 => BitVec.ofBool (decide (0 < adj (ix2 i x)))) Finset.univ)
      (Ideal.div (p (ix2 i k)) (∑ x : Fin 4096, p (ix2 i x))) (Gat.share : EReal) := by
  pointwise [att, share_eq]

theorem weights_apply (adj e : V S4096x4096) (i k : Fin 4096) :
    att adj (expo e) (ix2 i k) = Gat.rweight (fun k : Fin 4096 => adj (ix2 i k)) (fun k : Fin 4096 => e (ix2 i k)) k := by
  rw [att_apply, Gat.rweight]
  simp only [expo_apply]

theorem head_apply (adj e : V S4096x4096) (wh : V S4096x64) (i : Fin 4096) (j : Fin 64) :
    head adj e wh (ix2 i j)
      = ∑ k : Fin 4096, Gat.rweight (fun k : Fin 4096 => adj (ix2 i k)) (fun k : Fin 4096 => e (ix2 i k)) k * wh (ix2 k j) := by
  have h : head adj e wh (ix2 i j) = ∑ k : Fin 4096, att adj (expo e) (ix2 i k) * wh (ix2 k j) := by pointwise [head]
  rw [h]
  exact Finset.sum_congr rfl fun k _ => by rw [weights_apply]

theorem headO_apply (adj e : V S4096x4096) (wh : V S4096x128) (i : Fin 4096) (j : Fin 128) :
    headO adj e wh (ix2 i j)
      = ∑ k : Fin 4096, Gat.rweight (fun k : Fin 4096 => adj (ix2 i k)) (fun k : Fin 4096 => e (ix2 i k)) k * wh (ix2 k j) := by
  have h : headO adj e wh (ix2 i j) = ∑ k : Fin 4096, att adj (expo e) (ix2 i k) * wh (ix2 k j) := by pointwise [headO]
  rw [h]
  exact Finset.sum_congr rfl fun k _ => by rw [weights_apply]

theorem elu_apply (o : V S4096x64) (i : Fin 4096) (j : Fin 64) : elu o (ix2 i j) = Gat.elu (o (ix2 i j)) := by
  rw [← Gat.elu_ref]
  pointwise [elu, id_eq]

theorem cat_apply (h0 h1 h2 h3 : V S4096x64) (i : Fin 4096) (c : Fin 256) :
    cat h0 h1 h2 h3 (ix2 i c) = Gat.pick (fun h d => (![h0, h1, h2, h3] h) (ix2 i d)) c := by
  rw [Gat.pick_eq]
  pointwise [cat]

end Cert.RefValue

end
-- ==== Proof.Value.ReferenceSide.lean ====
/- The reference's result is the network. -/
module

public import proofs.«01_k».proof.Proof.Value.Model
public import proofs.«01_k».proof.Proof.Value.Reference
public import proofs.«01_k».proof.Proof.Gen.ReferenceIdeal.Run

@[expose] public section

set_option maxRecDepth 16384

noncomputable section

namespace Cert.ReferenceSide

open Idealize.ShloMosaic Idealize.ShloMosaic.TcCoe Idealize.SL.Sem Cert.ReferenceIdeal Cert.ReferenceIdeal.Gen Cert.RefValue Cert.Model
open Cert.ReferenceIdeal.Value (res_main_v0 res_main_v9 res_main_v13 res_main_v20 res_main_v30 res_main_v32 res_main_v41 res_main_v45 res_main_v52
  res_main_v62 res_main_v64 res_main_v73 res_main_v77 res_main_v84 res_main_v94 res_main_v103 res_main_v112 res_main_v117 res_main_v124
  res_main_v134 res_main_v137 res_main_v146 res_main_v150 res_main_v157)

/-! ### The reference as the composition of its steps -/

variable (A : Args)

/-- The leaky logits of a head. -/
def logits (h : Fin 4) : RefValue.V S4096x4096 := RefValue.leaky (RefValue.score (RefValue.feat A.x (A.w h)) (A.a h))

/-- A spatial head, and the intent head. -/
def spatial (h : Fin 4) : RefValue.V S4096x64 := RefValue.head A.adj (RefValue.mask A.adj (logits A h)) (RefValue.feat A.x (A.w h))
def intent (h : Fin 4) : RefValue.V S4096x64 :=
  RefValue.head A.adj (RefValue.mask A.adj (addf (logits A h) (RefValue.sim A.e A.q A.k))) (RefValue.feat A.x (A.w h))

/-- A head behind its unit; the last is the intent head. -/
def unit (h : Fin 4) : RefValue.V S4096x64 := RefValue.elu (if h = 3 then intent A h else spatial A h)

/-- The second layer's features. -/
def features : RefValue.V S4096x128 := RefValue.featO (RefValue.cat (unit A 0) (unit A 1) (unit A 2) (unit A 3)) A.wo

/-- The whole reference. -/
def net : RefValue.V S4096x128 :=
  Host.tanh (RefValue.headO A.adj (RefValue.mask A.adj (RefValue.leaky (RefValue.scoreO (features A) A.ao))) (features A))

/-! ### At an index -/

variable {A} (hA : A.Good)

theorem score_eq (h : Fin 4) (i k : Fin 4096) : RefValue.score (RefValue.feat A.x (A.w h)) (A.a h) (ix2 i k) = rowLogit A h i + colLogit A h k := by
  simp only [RefValue.score_apply, RefValue.feat_apply]
  rfl

theorem logits_eq (h : Fin 4) (i k : Fin 4096) : logits A h (ix2 i k) = Gat.leaky (rowLogit A h i + colLogit A h k) := by
  rw [logits, RefValue.leaky_apply, score_eq]

include hA

theorem head_eq (h : Fin 4) (s : RefValue.V S4096x4096)
    (hs : ∀ i k : Fin 4096, s (ix2 i k) = Gat.leaky (rowLogit A h i + colLogit A h k) + extra A h i k) (i : Fin 4096) (d : Fin 64) :
    RefValue.head A.adj (RefValue.mask A.adj s) (RefValue.feat A.x (A.w h)) (ix2 i d) = cell A h i d := by
  rw [RefValue.head_apply]
  simp only [RefValue.mask_apply, RefValue.feat_apply, hs]
  exact Gat.ref_cell (a := fun k : Fin 4096 => A.adj (ix2 i k)) (num_rowLogit hA h i) (num_colLogit hA h) (num_extra hA h i) fun k => num_feat hA h k d

theorem spatial_eq (h : Fin 4) (h3 : h ≠ 3) (i : Fin 4096) (d : Fin 64) : spatial A h (ix2 i d) = cell A h i d :=
  head_eq hA h _ (fun i k => by rw [logits_eq, extra, if_neg h3, add_zero]) i d

theorem intent_eq (h : Fin 4) (h3 : h = 3) (i : Fin 4096) (d : Fin 64) : intent A h (ix2 i d) = cell A h i d := by
  refine head_eq hA h _ (fun i k => ?_) i d
  show logits A h (ix2 i k) + RefValue.sim A.e A.q A.k (ix2 i k) = _
  rw [logits_eq, RefValue.sim_apply, extra, if_pos h3]
  rfl

theorem unit_eq (h : Fin 4) (i : Fin 4096) (d : Fin 64) : unit A h (ix2 i d) = Gat.elu (cell A h i d) := by
  rw [unit, RefValue.elu_apply]
  by_cases h3 : h = 3
  · rw [if_pos h3, intent_eq hA h h3]
  · rw [if_neg h3, spatial_eq hA h h3]

omit hA in
theorem four {α : Type} (f : Fin 4 → α) (h : Fin 4) : ![f 0, f 1, f 2, f 3] h = f h := by
  fin_cases h <;> rfl

theorem features_eq (i : Fin 4096) (d : Fin 128) : features A (ix2 i d) = Model.featO A i d := by
  rw [features, RefValue.featO_apply]
  unfold Model.featO
  refine Finset.sum_congr rfl fun c _ => congrArg (· * _) ?_
  rw [RefValue.cat_apply, Model.hidden]
  simp only [four, unit_eq hA]

omit hA in
theorem tanh_apply (v : RefValue.V S4096x128) (j : S4096x128.Idx) : Host.tanh v j = Ideal.tanh (v j) := rfl

theorem net_eq (i : Fin 4096) (d : Fin 128) : net A (ix2 i d) = result A i d := by
  rw [net, tanh_apply, RefValue.headO_apply, result]
  simp only [RefValue.mask_apply, RefValue.leaky_apply, RefValue.scoreO_apply, features_eq hA]
  refine congrArg Ideal.tanh ?_
  rw [← Gat.ref_cell (a := fun k : Fin 4096 => A.adj (ix2 i k)) (num_rowLogitO hA i) (num_colLogitO hA)
    (fun _ => ⟨0, EReal.coe_zero.symm⟩) fun k => num_featO hA k d]
  simp only [add_zero]
  rfl

omit hA

/-! ### The program -/

variable (m : (ℓ : Loc nD τ sig) → Buf (Elt Ideal) ℓ) (c : Dev nD)

/-- The arguments in a memory. -/
def args : Args where
  x := m (c, main_arg0)
  adj := m (c, main_arg1)
  e := m (c, main_arg2)
  w := ![m (c, main_arg3), m (c, main_arg5), m (c, main_arg7), m (c, main_arg9)]
  a := ![m (c, main_arg4), m (c, main_arg6), m (c, main_arg8), m (c, main_arg10)]
  q := m (c, main_arg11)
  k := m (c, main_arg12)
  wo := m (c, main_arg13)
  ao := m (c, main_arg14)

theorem v30_eq : res_main_v30 (StableHlo.launchContents m c) = spatial (args m c) 0 := rfl
theorem v62_eq : res_main_v62 (StableHlo.launchContents m c) = spatial (args m c) 1 := rfl
theorem v94_eq : res_main_v94 (StableHlo.launchContents m c) = spatial (args m c) 2 := rfl
theorem v134_eq : res_main_v134 (StableHlo.launchContents m c) = intent (args m c) 3 := rfl
theorem v137_eq : res_main_v137 (StableHlo.launchContents m c) = features (args m c) := by
  have h0 : unit (args m c) 0 = RefValue.elu (spatial (args m c) 0) := by rw [unit, if_neg (by decide)]
  have h1 : unit (args m c) 1 = RefValue.elu (spatial (args m c) 1) := by rw [unit, if_neg (by decide)]
  have h2 : unit (args m c) 2 = RefValue.elu (spatial (args m c) 2) := by rw [unit, if_neg (by decide)]
  have h3 : unit (args m c) 3 = RefValue.elu (intent (args m c) 3) := by rw [unit, if_pos rfl]
  rw [res_main_v137, v30_eq, v62_eq, v94_eq, v134_eq, features, h0, h1, h2, h3]
  rfl
theorem v150_eq : res_main_v150 (StableHlo.launchContents m c)
    = RefValue.mask (args m c).adj (RefValue.leaky (RefValue.scoreO (features (args m c)) (args m c).ao)) := by
  rw [res_main_v150, res_main_v146, v137_eq]
  rfl
theorem v157_eq : res_main_v157 (StableHlo.launchContents m c)
    = RefValue.expo (RefValue.mask (args m c).adj (RefValue.leaky (RefValue.scoreO (features (args m c)) (args m c).ao))) := by
  rw [res_main_v157, v150_eq]
  rfl

/-- What the program leaves, and the arguments as they were. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v168) = net (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ⟨(h c).1.trans ?_, (h c).2⟩) (Cert.ReferenceIdeal.Value.run (F := Ideal) m ρ)
  rw [v157_eq, v137_eq]
  rfl

end Cert.ReferenceSide

end
-- ==== Proof.Algebraic.lean ====
/- The kernel's result is the reference's, in exact arithmetic. -/
module

public import proofs.«01_k».proof.Defs
public import proofs.«01_k».proof.Proof.Frames
public import proofs.«01_k».proof.Proof.Value.Regular
public import proofs.«01_k».proof.Proof.Value.KernelSide
public import proofs.«01_k».proof.Proof.Value.ReferenceSide

@[expose] public section

noncomputable section

namespace Cert.Algebraic

open Idealize.ShloMosaic Idealize.ShloMosaic.TcCoe Idealize.SL.Sem

/-- The precondition makes the arguments good. -/
theorem good (m : (ℓ : Loc Cert.KernelIdeal.nD Cert.KernelIdeal.τ Cert.KernelIdeal.sig) → Buf (Elt Ideal) ℓ) (h : Pre_KernelIdeal_regular m)
    (c : Dev Cert.KernelIdeal.nD) : (KernelSide.args m c).Good := by
  have k := Regular.holds (h c)
  exact {
    adj := k.adj
    x := k.n0
    e := k.n2
    w := Fin.forall_fin_succ.2 ⟨k.n3, Fin.forall_fin_succ.2 ⟨k.n5, Fin.forall_fin_succ.2 ⟨k.n7, Fin.forall_fin_succ.2 ⟨k.n9, fun i => i.elim0⟩⟩⟩⟩
    a := Fin.forall_fin_succ.2 ⟨k.n4, Fin.forall_fin_succ.2 ⟨k.n6, Fin.forall_fin_succ.2 ⟨k.n8, Fin.forall_fin_succ.2 ⟨k.n10, fun i => i.elim0⟩⟩⟩⟩
    q := k.n11
    k := k.n12
    wo := k.n13
    ao := k.n14 }

/-- The two programs' common result. -/
def common (m : (ℓ : Loc Cert.KernelIdeal.nD Cert.KernelIdeal.τ Cert.KernelIdeal.sig) → Buf (Elt Ideal) ℓ) (c : Dev Cert.KernelIdeal.nD) :
    FVec Ideal Cert.KernelIdeal.S4096x128 .f32 := fun y => Model.result (KernelSide.args m c) (y 0) (y 1)

theorem four_eq {α : Type} {p q r s p' q' r' s' : α} (hp : p = p') (hq : q = q') (hr : r = r') (hs : s = s') :
    ![p, q, r, s] = ![p', q', r', s'] := by rw [hp, hq, hr, hs]

/-- From memories that agree on the arguments, which are regular, the two programs end with the same result. -/
theorem algebraic : Cert.algebraic_KernelIdeal_ReferenceIdeal_pre_regular := by
  intro m g m' g' hpre hargs
  refine ⟨fun c => common m c, ?_, ?_⟩
  · exact (θ_run Cert.KernelIdeal.defs _ _).mono (fun r h c => ⟨(h.1 c).1.trans (KernelSide.result_eq (good m hpre c)), (h.1 c).2⟩)
      (Cert.KernelIdeal.RunAll.frame (F := Ideal) m g)
  · refine (θ_run Cert.ReferenceIdeal.defs _ _).mono (fun r h c => ⟨(h c).1.trans ?_, (h c).2⟩) (ReferenceSide.run m' g')
    obtain ⟨h0, h1, h2, h3, h4, h5, h6, h7, h8, h9, h10, h11, h12, h13, h14⟩ := hargs c
    have e : ReferenceSide.args m' c = KernelSide.args m c := by
      unfold ReferenceSide.args KernelSide.args
      congr 1
      · exact four_eq h3 h5 h7 h9
      · exact four_eq h4 h6 h8 h10
    rw [e]
    refine funext fun y => ?_
    idx_vars y
    exact ReferenceSide.net_eq (good m hpre c) y0 y1

/-- The frames, which need no precondition, under it. -/
theorem kernelIdeal_regular : Cert.quiescent_KernelIdeal_pre_regular := fun m ρ _ => Frames.kernelIdeal m ρ trivial

theorem referenceIdeal_regular : Cert.quiescent_ReferenceIdeal_pre_regular := fun m ρ _ => Frames.referenceIdeal m ρ trivial

end Cert.Algebraic

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_regular
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_regular.Gen.facts,
  Cert.Frames.kernel, Cert.Frames.kernelIdeal, Cert.Algebraic.kernelIdeal_regular, Cert.Frames.referenceIdeal, Cert.Algebraic.referenceIdeal_regular,
  Cert.Frames.preserves, Cert.Algebraic.algebraic⟩

end Cert.Proof

end
